-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v66_8) = v2 c
          ∧ r.2.mem ((c.tc : Thread Cert.ReferenceIdeal.nD Cert.ReferenceIdeal.τ).loc Cert.ReferenceIdeal.main_v66_9) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x48x64 : Shape := ⟨4, ![3, 640, 48, 64]⟩
abbrev S3x40x48 : Shape := ⟨3, ![3, 40, 48]⟩
abbrev S3x640x3072 : Shape := ⟨3, ![3, 640, 3072]⟩
abbrev S3072x48 : Shape := ⟨2, ![3072, 48]⟩
abbrev S48 : Shape := ⟨1, ![48]⟩
abbrev S48x64x64 : Shape := ⟨3, ![48, 64, 64]⟩
abbrev S48x64 : Shape := ⟨2, ![48, 64]⟩
abbrev S3x48x64x640 : Shape := ⟨4, ![3, 48, 64, 640]⟩
abbrev S3x48x40 : Shape := ⟨3, ![3, 48, 40]⟩
abbrev S3x48x40x16 : Shape := ⟨4, ![3, 48, 40, 16]⟩
abbrev S3x48x640 : Shape := ⟨3, ![3, 48, 640]⟩
abbrev S3x48x1x640 : Shape := ⟨4, ![3, 48, 1, 640]⟩
abbrev S48x3072 : Shape := ⟨2, ![48, 3072]⟩
abbrev S48x1 : Shape := ⟨2, ![48, 1]⟩
abbrev S1x128x3072 : Shape := ⟨3, ![1, 128, 3072]⟩
abbrev S1x48x128 : Shape := ⟨3, ![1, 48, 128]⟩
abbrev S128x3072 : Shape := ⟨2, ![128, 3072]⟩
abbrev S48x128 : Shape := ⟨2, ![48, 128]⟩
abbrev S48x64x1 : Shape := ⟨3, ![48, 64, 1]⟩
abbrev S3x48x64x64 : Shape := ⟨4, ![3, 48, 64, 64]⟩
abbrev S3x48x64x1 : Shape := ⟨4, ![3, 48, 64, 1]⟩
abbrev S1x8x64x640 : Shape := ⟨4, ![1, 8, 64, 640]⟩
abbrev S1x8x1x640 : Shape := ⟨4, ![1, 8, 1, 640]⟩
abbrev S8x64x64 : Shape := ⟨3, ![8, 64, 64]⟩
abbrev S8x64x1 : Shape := ⟨3, ![8, 64, 1]⟩
abbrev S1x8x64x64 : Shape := ⟨4, ![1, 8, 64, 64]⟩
abbrev S1x8x64x1 : Shape := ⟨4, ![1, 8, 64, 1]⟩
abbrev S16x16 : Shape := ⟨2, ![16, 16]⟩
abbrev S1x64x64 : Shape := ⟨3, ![1, 64, 64]⟩
abbrev S64x64 : Shape := ⟨2, ![64, 64]⟩
abbrev S1x64x1 : Shape := ⟨3, ![1, 64, 1]⟩
abbrev S64x1 : Shape := ⟨2, ![64, 1]⟩
abbrev S1x1x64x128 : Shape := ⟨4, ![1, 1, 64, 128]⟩
abbrev S64x128 : Shape := ⟨2, ![64, 128]⟩
abbrev S1x1x1x128 : Shape := ⟨4, ![1, 1, 1, 128]⟩
abbrev S1x128 : Shape := ⟨2, ![1, 128]⟩
abbrev S128x128 : Shape := ⟨2, ![128, 128]⟩
abbrev S64x16 : Shape := ⟨2, ![64, 16]⟩
abbrev S1x16 : Shape := ⟨2, ![1, 16]⟩
abbrev S16 : Shape := ⟨1, ![16]⟩
abbrev S64 : Shape := ⟨1, ![64]⟩
abbrev S1x1x64x64 : Shape := ⟨4, ![1, 1, 64, 64]⟩
abbrev S1x1x64x1 : Shape := ⟨4, ![1, 1, 64, 1]⟩
abbrev S3x48x64 : Shape := ⟨3, ![3, 48, 64]⟩

abbrev nBuf : Space → Nat
  | .hbm => 42
  | .vmem => 36
  | .smem => 0
  | _ => 0

abbrev bufTy : (tb : Table) → Fin (tcTables nBuf tb) → BufTy
  | .hbm, ⟨0, _⟩ => ⟨S3x640x48x64, .fp8e4m3⟩
  | .hbm, ⟨1, _⟩ => ⟨S3x640x48x64, .fp8e4m3⟩
  | .hbm, ⟨2, _⟩ => ⟨S3x640x48x64, .fp8e4m3⟩
  | .hbm, ⟨3, _⟩ => ⟨S3x40x48, .f32⟩
  | .hbm, ⟨4, _⟩ => ⟨S3x40x48, .f32⟩
  | .hbm, ⟨5, _⟩ => ⟨S3x40x48, .f32⟩
  | .hbm, ⟨6, _⟩ => ⟨S3x640x3072, .bf16⟩
  | .hbm, ⟨7, _⟩ => ⟨S3072x48, .f32⟩
  | .hbm, ⟨8, _⟩ => ⟨S48, .f32⟩
  | .hbm, ⟨9, _⟩ => ⟨S48x64x64, .f32⟩
  | .hbm, ⟨10, _⟩ => ⟨S48x64, .f32⟩
  | .hbm, ⟨11, _⟩ => ⟨S48x64, .f32⟩
  | .hbm, ⟨12, _⟩ => ⟨S48x64, .f32⟩
  | .hbm, ⟨13, _⟩ => ⟨S3x48x64x640, .fp8e4m3⟩
  | .hbm, ⟨14, _⟩ => ⟨S3x48x64x640, .fp8e4m3⟩
  | .hbm, ⟨15, _⟩ => ⟨S3x48x64x640, .fp8e4m3⟩
  | .hbm, ⟨16, _⟩ => ⟨S3x48x40, .f32⟩
  | .hbm, ⟨17, _⟩ => ⟨S3x48x40x16, .f32⟩
  | .hbm, ⟨18, _⟩ => ⟨S3x48x640, .f32⟩
  | .hbm, ⟨19, _⟩ => ⟨S3x48x1x640, .f32⟩
  | .hbm, ⟨20, _⟩ => ⟨S3x48x40, .f32⟩
  | .hbm, ⟨21, _⟩ => ⟨S3x48x40x16, .f32⟩
  | .hbm, ⟨22, _⟩ => ⟨S3x48x640, .f32⟩
  | .hbm, ⟨23, _⟩ => ⟨S3x48x1x640, .f32⟩
  | .hbm, ⟨24, _⟩ => ⟨S3x48x40, .f32⟩
  | .hbm, ⟨25, _⟩ => ⟨S3x48x40x16, .f32⟩
  | .hbm, ⟨26, _⟩ => ⟨S3x48x640, .f32⟩
  | .hbm, ⟨27, _⟩ => ⟨S3x48x1x640, .f32⟩
  | .hbm, ⟨28, _⟩ => ⟨S48x3072, .f32⟩
  | .hbm, ⟨29, _⟩ => ⟨S48x1, .f32⟩
  | .hbm, ⟨30, _⟩ => ⟨S3x48x640, .f32⟩
  | .hbm, ⟨31, _⟩ => ⟨S3x48x1x640, .f32⟩
  | .hbm, ⟨32, _⟩ => ⟨S48x64x1, .f32⟩
  | .hbm, ⟨33, _⟩ => ⟨S48x64x1, .f32⟩
  | .hbm, ⟨34, _⟩ => ⟨S48x64x1, .f32⟩
  | .hbm, ⟨35, _⟩ => ⟨S3x48x64x640, .bf16⟩
  | .hbm, ⟨36, _⟩ => ⟨S3x48x64x640, .f32⟩
  | .hbm, ⟨37, _⟩ => ⟨S3x48x64x64, .f32⟩
  | .hbm, ⟨38, _⟩ => ⟨S3x48x64x1, .f32⟩
  | .hbm, ⟨39, _⟩ => ⟨S3x640x48x64, .bf16⟩
  | .hbm, ⟨40, _⟩ => ⟨S3x640x48x64, .f32⟩
  | .hbm, ⟨41, _⟩ => ⟨S3x48x64, .f32⟩
  | .local _ .vmem, ⟨0, _⟩ => ⟨S48x3072, .f32⟩
  | .local _ .vmem, ⟨1, _⟩ => ⟨S48x1, .f32⟩
  | .local _ .vmem, ⟨2, _⟩ => ⟨S1x128x3072, .bf16⟩
  | .local _ .vmem, ⟨3, _⟩ => ⟨S1x128x3072, .bf16⟩
  | .local _ .vmem, ⟨4, _⟩ => ⟨S1x48x128, .f32⟩
  | .local _ .vmem, ⟨5, _⟩ => ⟨S1x48x128, .f32⟩
  | .local _ .vmem, ⟨6, _⟩ => ⟨S1x8x64x640, .fp8e4m3⟩
  | .local _ .vmem, ⟨7, _⟩ => ⟨S1x8x64x640, .fp8e4m3⟩
  | .local _ .vmem, ⟨8, _⟩ => ⟨S1x8x64x640, .fp8e4m3⟩
  | .local _ .vmem, ⟨9, _⟩ => ⟨S1x8x64x640, .fp8e4m3⟩
  | .local _ .vmem, ⟨10, _⟩ => ⟨S1x8x64x640, .fp8e4m3⟩
  | .local _ .vmem, ⟨11, _⟩ => ⟨S1x8x64x640, .fp8e4m3⟩
  | .local _ .vmem, ⟨12, _⟩ => ⟨S1x8x1x640, .f32⟩
  | .local _ .vmem, ⟨13, _⟩ => ⟨S1x8x1x640, .f32⟩
  | .local _ .vmem, ⟨14, _⟩ => ⟨S1x8x1x640, .f32⟩
  | .local _ .vmem, ⟨15, _⟩ => ⟨S1x8x1x640, .f32⟩
  | .local _ .vmem, ⟨16, _⟩ => ⟨S1x8x1x640, .f32⟩
  | .local _ .vmem, ⟨17, _⟩ => ⟨S1x8x1x640, .f32⟩
  | .local _ .vmem, ⟨18, _⟩ => ⟨S1x8x1x640, .f32⟩
  | .local _ .vmem, ⟨19, _⟩ => ⟨S1x8x1x640, .f32⟩
  | .local _ .vmem, ⟨20, _⟩ => ⟨S8x64x64, .f32⟩
  | .local _ .vmem, ⟨21, _⟩ => ⟨S8x64x64, .f32⟩
  | .local _ .vmem, ⟨22, _⟩ => ⟨S8x64x1, .f32⟩
  | .local _ .vmem, ⟨23, _⟩ => ⟨S8x64x1, .f32⟩
  | .local _ .vmem, ⟨24, _⟩ => ⟨S8x64x1, .f32⟩
  | .local _ .vmem, ⟨25, _⟩ => ⟨S8x64x1, .f32⟩
  | .local _ .vmem, ⟨26, _⟩ => ⟨S8x64x1, .f32⟩
  | .local _ .vmem, ⟨27, _⟩ => ⟨S8x64x1, .f32⟩
  | .local _ .vmem, ⟨28, _⟩ => ⟨S1x8x64x640, .bf16⟩
  | .local _ .vmem, ⟨29, _⟩ => ⟨S1x8x64x640, .bf16⟩
  | .local _ .vmem, ⟨30, _⟩ => ⟨S1x8x64x640, .f32⟩
  | .local _ .vmem, ⟨31, _⟩ => ⟨S1x8x64x640, .f32⟩
  | .local _ .vmem, ⟨32, _⟩ => ⟨S1x8x64x64, .f32⟩
  | .local _ .vmem, ⟨33, _⟩ => ⟨S1x8x64x64, .f32⟩
  | .local _ .vmem, ⟨34, _⟩ => ⟨S1x8x64x1, .f32⟩
  | .local _ .vmem, ⟨35, _⟩ => ⟨S1x8x64x1, .f32⟩
  | _, _ => ⟨S3x640x48x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc1_stg13_0 : Ref sig .tc := ⟨.vmem, 32, rfl⟩
abbrev cc1_stg13_1 : Ref sig .tc := ⟨.vmem, 33, rfl⟩
abbrev cc1_stg14_0 : Ref sig .tc := ⟨.vmem, 34, rfl⟩
abbrev cc1_stg14_1 : Ref sig .tc := ⟨.vmem, 35, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc1_sem12_1 : DmaSem sig := 31
abbrev cc1_sem13_0 : DmaSem sig := 32
abbrev cc1_sem13_1 : DmaSem sig := 33
abbrev cc1_sem14_0 : DmaSem sig := 34
abbrev cc1_sem14_1 : DmaSem sig := 35

abbrev nD : Nat := 1
abbrev τ : Topo := Topo.v7x

variable {F : FTy → Type} [FloatOps F]

abbrev grid0 : Pipeline.Grid := ⟨2, ![3, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S48x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S48x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x48x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![3, 6], ![false, false]⟩

@[reducible] def k1_t1_loop : Scf.Loop 32 :=
  let c0_i32 : BitVec 32 := 0#32
  let c8_i32 : BitVec 32 := 8#32
  let v10 : BitVec 32 := Scalar.addi c0_i32 c8_i32
  let c1_i32_1 : BitVec 32 := 1#32
  ⟨c0_i32, v10, c1_i32_1⟩
def k1_off1 (k1_t1 : Fin k1_t1_loop.trips) : Fin 3 → Nat :=
  let c0_i32 : BitVec 32 := 0#32
  let c1_i32_1 : BitVec 32 := 1#32
  let arg17 : BitVec 32 := Scf.iv c0_i32 c1_i32_1 k1_t1
  let v11 : Index := Scalar.indexCast arg17
  let c0 : Index := 0#32
  let c0_3 : Index := 0#32
  ![v11.toNat, 0, 0]
def k1_off2 (k1_t1 : Fin k1_t1_loop.trips) : Fin 3 → Nat :=
  let c0_i32 : BitVec 32 := 0#32
  let c1_i32_1 : BitVec 32 := 1#32
  let arg17 : BitVec 32 := Scf.iv c0_i32 c1_i32_1 k1_t1
  let v15 : Index := Scalar.indexCast arg17
  let c0_4 : Index := 0#32
  let c0_5 : Index := 0#32
  ![v15.toNat, 0, 0]
def k1_off3 (k1_t1 : Fin k1_t1_loop.trips) : Fin 4 → Nat :=
  let c0_10 : Index := 0#32
  let c0_i32 : BitVec 32 := 0#32
  let c1_i32_1 : BitVec 32 := 1#32
  let arg17 : BitVec 32 := Scf.iv c0_i32 c1_i32_1 k1_t1
  let v24 : Index := Scalar.indexCast arg17
  let c0_11 : Index := 0#32
  let c0_12 : Index := 0#32
  ![0, v24.toNat, 0, 0]
def k1_off4 (k1_t1 : Fin k1_t1_loop.trips) : Fin 4 → Nat :=
  let c0_19 : Index := 0#32
  let c0_i32 : BitVec 32 := 0#32
  let c1_i32_1 : BitVec 32 := 1#32
  let arg17 : BitVec 32 := Scf.iv c0_i32 c1_i32_1 k1_t1
  let v33 : Index := Scalar.indexCast arg17
  let c0_20 : Index := 0#32
  let c0_21 : Index := 0#32
  ![0, v33.toNat, 0, 0]
def k1_off5 (k1_t1 : Fin k1_t1_loop.trips) : Fin 4 → Nat :=
  let c0_206 : Index := 0#32
  let c0_i32 : BitVec 32 := 0#32
  let c1_i32_1 : BitVec 32 := 1#32
  let arg17 : BitVec 32 := Scf.iv c0_i32 c1_i32_1 k1_t1
  let v750 : Index := Scalar.indexCast arg17
  let c0_207 : Index := 0#32
  let c128 : Index := 128#32
  ![0, v750.toNat, 0, 128]
def k1_off6 (k1_t1 : Fin k1_t1_loop.trips) : Fin 4 → Nat :=
  let c0_214 : Index := 0#32
  let c0_i32 : BitVec 32 := 0#32
  let c1_i32_1 : BitVec 32 := 1#32
  let arg17 : BitVec 32 := Scf.iv c0_i32 c1_i32_1 k1_t1
  let v759 : Index := Scalar.indexCast arg17
  let c0_215 : Index := 0#32
  let c128_216 : Index := 128#32
  ![0, v759.toNat, 0, 128]
def k1_off7 (k1_t1 : Fin k1_t1_loop.trips) : Fin 4 → Nat :=
  let c0_401 : Index := 0#32
  let c0_i32 : BitVec 32 := 0#32
  let c1_i32_1 : BitVec 32 := 1#32
  let arg17 : BitVec 32 := Scf.iv c0_i32 c1_i32_1 k1_t1
  let v1476 : Index := Scalar.indexCast arg17
  let c0_402 : Index := 0#32
  let c256 : Index := 256#32
  ![0, v1476.toNat, 0, 256]
def k1_off8 (k1_t1 : Fin k1_t1_loop.trips) : Fin 4 → Nat :=
  let c0_409 : Index := 0#32
  let c0_i32 : BitVec 32 := 0#32
  let c1_i32_1 : BitVec 32 := 1#32
  let arg17 : BitVec 32 := Scf.iv c0_i32 c1_i32_1 k1_t1
  let v1485 : Index := Scalar.indexCast arg17
  let c0_410 : Index := 0#32
  let c256_411 : Index := 256#32
  ![0, v1485.toNat, 0, 256]
def k1_off9 (k1_t1 : Fin k1_t1_loop.trips) : Fin 4 → Nat :=
  let c0_596 : Index := 0#32
  let c0_i32 : BitVec 32 := 0#32
  let c1_i32_1 : BitVec 32 := 1#32
  let arg17 : BitVec 32 := Scf.iv c0_i32 c1_i32_1 k1_t1
  let v2202 : Index := Scalar.indexCast arg17
  let c0_597 : Index := 0#32
  let c384 : Index := 384#32
  ![0, v2202.toNat, 0, 384]
def k1_off10 (k1_t1 : Fin k1_t1_loop.trips) : Fin 4 → Nat :=
  let c0_604 : Index := 0#32
  let c0_i32 : BitVec 32 := 0#32
  let c1_i32_1 : BitVec 32 := 1#32
  let arg17 : BitVec 32 := Scf.iv c0_i32 c1_i32_1 k1_t1
  let v2211 : Index := Scalar.indexCast arg17
  let c0_605 : Index := 0#32
  let c384_606 : Index := 384#32
  ![0, v2211.toNat, 0, 384]
def k1_off11 (k1_t1 : Fin k1_t1_loop.trips) : Fin 4 → Nat :=
  let c0_791 : Index := 0#32
  let c0_i32 : BitVec 32 := 0#32
  let c1_i32_1 : BitVec 32 := 1#32
  let arg17 : BitVec 32 := Scf.iv c0_i32 c1_i32_1 k1_t1
  let v2928 : Index := Scalar.indexCast arg17
  let c0_792 : Index := 0#32
  let c512 : Index := 512#32
  ![0, v2928.toNat, 0, 512]
def k1_off12 (k1_t1 : Fin k1_t1_loop.trips) : Fin 4 → Nat :=
  let c0_799 : Index := 0#32
  let c0_i32 : BitVec 32 := 0#32
  let c1_i32_1 : BitVec 32 := 1#32
  let arg17 : BitVec 32 := Scf.iv c0_i32 c1_i32_1 k1_t1
  let v2937 : Index := Scalar.indexCast arg17
  let c0_800 : Index := 0#32
  let c512_801 : Index := 512#32
  ![0, v2937.toNat, 0, 512]
def k1_off13 (k1_t1 : Fin k1_t1_loop.trips) : Fin 4 → Nat :=
  let c0_986 : Index := 0#32
  let c0_i32 : BitVec 32 := 0#32
  let c1_i32_1 : BitVec 32 := 1#32
  let arg17 : BitVec 32 := Scf.iv c0_i32 c1_i32_1 k1_t1
  let v3655 : Index := Scalar.indexCast arg17
  let c0_987 : Index := 0#32
  let c0_988 : Index := 0#32
  ![0, v3655.toNat, 0, 0]
def k1_off14 (k1_t1 : Fin k1_t1_loop.trips) : Fin 4 → Nat :=
  let c0_989 : Index := 0#32
  let c0_i32 : BitVec 32 := 0#32
  let c1_i32_1 : BitVec 32 := 1#32
  let arg17 : BitVec 32 := Scf.iv c0_i32 c1_i32_1 k1_t1
  let v3659 : Index := Scalar.indexCast arg17
  let c0_990 : Index := 0#32
  let c0_991 : Index := 0#32
  ![0, v3659.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_13 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_14 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x8x64x640 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x64x640 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x64x640 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x1x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x1x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x8x1x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x8x1x640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x64x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S8x64x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S8x64x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S8x64x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![false, true]

abbrev stage1_11 : Fin 2 → Memref sig .tc .vmem S1x8x64x640 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x8x64x640 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x8x64x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x8x64x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== ReferenceIdeal.lean ====
abbrev S3x640x48x64 : Shape := ⟨4, ![3, 640, 48, 64]⟩
abbrev S3x40x48 : Shape := ⟨3, ![3, 40, 48]⟩
abbrev S3x640x3072 : Shape := ⟨3, ![3, 640, 3072]⟩
abbrev S3072x48 : Shape := ⟨2, ![3072, 48]⟩
abbrev S48 : Shape := ⟨1, ![48]⟩
abbrev S48x64x64 : Shape := ⟨3, ![48, 64, 64]⟩
abbrev S48x64 : Shape := ⟨2, ![48, 64]⟩
abbrev S3x40x16x3072 : Shape := ⟨4, ![3, 40, 16, 3072]⟩
abbrev S48x3x40x16 : Shape := ⟨4, ![48, 3, 40, 16]⟩
abbrev S40x3x16x48 : Shape := ⟨4, ![40, 3, 16, 48]⟩
abbrev S1x1x1x48 : Shape := ⟨4, ![1, 1, 1, 48]⟩
abbrev S_ : Shape := ⟨0, ![]⟩
abbrev S3x40x16x48x64 : Shape := ⟨5, ![3, 40, 16, 48, 64]⟩
abbrev S40x3x16x48x64 : Shape := ⟨5, ![40, 3, 16, 48, 64]⟩
abbrev S40x3x48 : Shape := ⟨3, ![40, 3, 48]⟩
abbrev S40x3x1x48x1 : Shape := ⟨5, ![40, 3, 1, 48, 1]⟩
abbrev S40x3x48x16x16 : Shape := ⟨5, ![40, 3, 48, 16, 16]⟩
abbrev S40x3x16x16x48 : Shape := ⟨5, ![40, 3, 16, 16, 48]⟩
abbrev S40x3x1x1x48 : Shape := ⟨5, ![40, 3, 1, 1, 48]⟩
abbrev S16 : Shape := ⟨1, ![16]⟩
abbrev S40x3x1x16x48 : Shape := ⟨5, ![40, 3, 1, 16, 48]⟩
abbrev S16x1x1 : Shape := ⟨3, ![16, 1, 1]⟩
abbrev S1x1x16x1x1 : Shape := ⟨5, ![1, 1, 16, 1, 1]⟩
abbrev S16x16 : Shape := ⟨2, ![16, 16]⟩
abbrev S16x16x1 : Shape := ⟨3, ![16, 16, 1]⟩
abbrev S1x48x64x64 : Shape := ⟨4, ![1, 48, 64, 64]⟩
abbrev S3x48x64x64 : Shape := ⟨4, ![3, 48, 64, 64]⟩
abbrev S1x48x64 : Shape := ⟨3, ![1, 48, 64]⟩
abbrev S3x48x64 : Shape := ⟨3, ![3, 48, 64]⟩
abbrev S1x3x16x48x64 : Shape := ⟨5, ![1, 3, 16, 48, 64]⟩
abbrev S3x16x48x64 : Shape := ⟨4, ![3, 16, 48, 64]⟩
abbrev S1x3x16x16x48 : Shape := ⟨5, ![1, 3, 16, 16, 48]⟩
abbrev S3x16x16x48 : Shape := ⟨4, ![3, 16, 16, 48]⟩
abbrev S1x3x16x48 : Shape := ⟨4, ![1, 3, 16, 48]⟩
abbrev S3x16x48 : Shape := ⟨3, ![3, 16, 48]⟩
abbrev S3x48x64x16 : Shape := ⟨4, ![3, 48, 64, 16]⟩
abbrev S3x1x48x64 : Shape := ⟨4, ![3, 1, 48, 64]⟩
abbrev S3x16x48x1 : Shape := ⟨4, ![3, 16, 48, 1]⟩
abbrev S1x1x48x64 : Shape := ⟨4, ![1, 1, 48, 64]⟩
abbrev S40x3x16x48x1 : Shape := ⟨5, ![40, 3, 16, 48, 1]⟩
abbrev S1x1x1x48x64 : Shape := ⟨5, ![1, 1, 1, 48, 64]⟩

abbrev nBuf : Space → Nat
  | .hbm => 258
  | .vmem => 6
  | .smem => 0
  | _ => 0

abbrev hbmTy0_0 (i : Nat) : BufTy := match i % 128 with
  | 0 => ⟨S3x640x48x64, .fp8e4m3⟩
  | 1 => ⟨S3x640x48x64, .fp8e4m3⟩
  | 2 => ⟨S3x640x48x64, .fp8e4m3⟩
  | 3 => ⟨S3x40x48, .f32⟩
  | 4 => ⟨S3x40x48, .f32⟩
  | 5 => ⟨S3x40x48, .f32⟩
  | 6 => ⟨S3x640x3072, .bf16⟩
  | 7 => ⟨S3072x48, .f32⟩
  | 8 => ⟨S48, .f32⟩
  | 9 => ⟨S48x64x64, .f32⟩
  | 10 => ⟨S48x64, .f32⟩
  | 11 => ⟨S48x64, .f32⟩
  | 12 => ⟨S48x64, .f32⟩
  | 13 => ⟨S3x640x3072, .f32⟩
  | 14 => ⟨S3x40x16x3072, .f32⟩
  | 15 => ⟨S48x3x40x16, .f32⟩
  | 16 => ⟨S40x3x16x48, .f32⟩
  | 17 => ⟨S1x1x1x48, .f32⟩
  | 18 => ⟨S40x3x16x48, .f32⟩
  | 19 => ⟨S40x3x16x48, .f32⟩
  | 20 => ⟨S40x3x16x48, .f32⟩
  | 21 => ⟨S40x3x16x48, .f32⟩
  | 22 => ⟨S_, .f32⟩
  | 23 => ⟨S40x3x16x48, .f32⟩
  | 24 => ⟨S40x3x16x48, .f32⟩
  | 25 => ⟨S_, .f32⟩
  | 26 => ⟨S40x3x16x48, .f32⟩
  | 27 => ⟨S40x3x16x48, .f32⟩
  | 28 => ⟨S_, .f32⟩
  | 29 => ⟨S40x3x16x48, .f32⟩
  | 30 => ⟨S40x3x16x48, .f32⟩
  | 31 => ⟨S_, .f32⟩
  | 32 => ⟨S40x3x16x48, .f32⟩
  | 33 => ⟨S40x3x16x48, .f32⟩
  | 34 => ⟨S3x640x48x64, .f32⟩
  | 35 => ⟨S3x640x48x64, .f32⟩
  | 36 => ⟨S3x640x48x64, .f32⟩
  | 37 => ⟨S3x40x16x48x64, .f32⟩
  | 38 => ⟨S40x3x16x48x64, .f32⟩
  | 39 => ⟨S3x40x16x48x64, .f32⟩
  | 40 => ⟨S40x3x16x48x64, .f32⟩
  | 41 => ⟨S3x40x16x48x64, .f32⟩
  | 42 => ⟨S40x3x16x48x64, .f32⟩
  | 43 => ⟨S40x3x48, .f32⟩
  | 44 => ⟨S40x3x48, .f32⟩
  | 45 => ⟨S40x3x48, .f32⟩
  | 46 => ⟨S40x3x1x48x1, .f32⟩
  | 47 => ⟨S40x3x16x48x64, .f32⟩
  | 48 => ⟨S40x3x16x48x64, .f32⟩
  | 49 => ⟨S40x3x1x48x1, .f32⟩
  | 50 => ⟨S40x3x16x48x64, .f32⟩
  | 51 => ⟨S40x3x16x48x64, .f32⟩
  | 52 => ⟨S40x3x1x48x1, .f32⟩
  | 53 => ⟨S40x3x16x48x64, .f32⟩
  | 54 => ⟨S40x3x16x48x64, .f32⟩
  | 55 => ⟨S40x3x48x16x16, .f32⟩
  | 56 => ⟨S40x3x16x16x48, .f32⟩
  | 57 => ⟨S40x3x48, .f32⟩
  | 58 => ⟨S40x3x1x1x48, .f32⟩
  | 59 => ⟨S40x3x16x16x48, .f32⟩
  | 60 => ⟨S40x3x16x16x48, .f32⟩
  | 61 => ⟨S16, .f32⟩
  | 62 => ⟨S_, .f32⟩
  | 63 => ⟨S16, .f32⟩
  | 64 => ⟨S16, .f32⟩
  | 65 => ⟨S40x3x1x16x48, .f32⟩
  | 66 => ⟨S16x1x1, .f32⟩
  | 67 => ⟨S1x1x16x1x1, .f32⟩
  | 68 => ⟨S40x3x16x16x48, .f32⟩
  | 69 => ⟨S40x3x16x16x48, .f32⟩
  | 70 => ⟨S40x3x16x16x48, .f32⟩
  | 71 => ⟨S40x3x16x48x64, .f32⟩
  | 72 => ⟨S_, .i1⟩
  | 73 => ⟨S16x16, .i1⟩
  | 74 => ⟨S16x16, .i32⟩
  | 75 => ⟨S_, .i32⟩
  | 76 => ⟨S16x16, .i32⟩
  | 77 => ⟨S16x16, .i32⟩
  | 78 => ⟨S16x16, .i32⟩
  | 79 => ⟨S16x16, .i1⟩
  | 80 => ⟨S_, .i1⟩
  | 81 => ⟨S16x16, .i1⟩
  | 82 => ⟨S16x16, .i1⟩
  | 83 => ⟨S16x16x1, .i1⟩
  | 84 => ⟨S_, .f32⟩
  | 85 => ⟨S40x3x16x16x48, .f32⟩
  | 86 => ⟨S40x3x16x16x48, .f32⟩
  | 87 => ⟨S40x3x16x16x48, .f32⟩
  | 88 => ⟨S_, .f32⟩
  | 89 => ⟨S_, .f32⟩
  | 90 => ⟨S40x3x16x16x48, .i1⟩
  | 91 => ⟨S40x3x16x16x48, .f32⟩
  | 92 => ⟨S40x3x16x16x48, .f32⟩
  | 93 => ⟨S_, .f32⟩
  | 94 => ⟨S40x3x16x48, .f32⟩
  | 95 => ⟨S40x3x16x48, .f32⟩
  | 96 => ⟨S1x48x64x64, .f32⟩
  | 97 => ⟨S3x48x64x64, .f32⟩
  | 98 => ⟨S1x48x64, .f32⟩
  | 99 => ⟨S3x48x64, .f32⟩
  | 100 => ⟨S_, .f32⟩
  | 101 => ⟨S40x3x16x48x64, .f32⟩
  | 102 => ⟨S_, .i32⟩
  | 103 => ⟨S40x3x16x48x64, .f32⟩
  | 104 => ⟨S40x3x16x48x64, .f32⟩
  | 105 => ⟨S40x3x16x48x64, .f32⟩
  | 106 => ⟨S40x3x16x16x48, .f32⟩
  | 107 => ⟨S40x3x16x48, .f32⟩
  | 108 => ⟨S48x64, .f32⟩
  | 109 => ⟨S48x64, .f32⟩
  | 110 => ⟨S_, .i32⟩
  | 111 => ⟨S3x48x64x64, .f32⟩
  | 112 => ⟨S3x48x64, .f32⟩
  | 113 => ⟨S40x3x16x48x64, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S1x3x16x48x64, .f32⟩
  | 121 => ⟨S3x16x48x64, .f32⟩
  | 122 => ⟨S_, .i32⟩
  | 123 => ⟨S_, .i32⟩
  | 124 => ⟨S_, .i32⟩
  | 125 => ⟨S_, .i32⟩
  | 126 => ⟨S1x3x16x48x64, .f32⟩
  | 127 => ⟨S3x16x48x64, .f32⟩
  | _ => ⟨S3x640x48x64, .fp8e4m3⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x3x16x48x64, .f32⟩
  | 5 => ⟨S3x16x48x64, .f32⟩
  | 6 => ⟨S_, .i32⟩
  | 7 => ⟨S_, .i32⟩
  | 8 => ⟨S_, .i32⟩
  | 9 => ⟨S_, .i32⟩
  | 10 => ⟨S1x3x16x16x48, .f32⟩
  | 11 => ⟨S3x16x16x48, .f32⟩
  | 12 => ⟨S_, .i32⟩
  | 13 => ⟨S_, .i32⟩
  | 14 => ⟨S_, .i32⟩
  | 15 => ⟨S1x3x16x48, .f32⟩
  | 16 => ⟨S3x16x48, .f32⟩
  | 17 => ⟨S3x48x64x16, .f32⟩
  | 18 => ⟨S3x16x48x64, .f32⟩
  | 19 => ⟨S3x1x48x64, .f32⟩
  | 20 => ⟨S3x16x48x64, .f32⟩
  | 21 => ⟨S3x16x48x64, .f32⟩
  | 22 => ⟨S_, .f32⟩
  | 23 => ⟨S3x16x48, .f32⟩
  | 24 => ⟨S3x16x48x1, .f32⟩
  | 25 => ⟨S_, .f32⟩
  | 26 => ⟨S3x16x48x1, .f32⟩
  | 27 => ⟨S3x16x48x1, .f32⟩
  | 28 => ⟨S3x16x48x64, .f32⟩
  | 29 => ⟨S3x16x48x64, .f32⟩
  | 30 => ⟨S3x16x48x64, .f32⟩
  | 31 => ⟨S_, .f32⟩
  | 32 => ⟨S3x16x48, .f32⟩
  | 33 => ⟨S3x16x48x1, .f32⟩
  | 34 => ⟨S_, .f32⟩
  | 35 => ⟨S3x16x48x1, .f32⟩
  | 36 => ⟨S3x16x48x1, .f32⟩
  | 37 => ⟨S_, .f32⟩
  | 38 => ⟨S3x16x48x1, .f32⟩
  | 39 => ⟨S3x16x48x1, .f32⟩
  | 40 => ⟨S3x16x48x1, .f32⟩
  | 41 => ⟨S3x16x48x64, .f32⟩
  | 42 => ⟨S3x16x48x64, .f32⟩
  | 43 => ⟨S1x1x48x64, .f32⟩
  | 44 => ⟨S3x16x48x64, .f32⟩
  | 45 => ⟨S3x16x48x64, .f32⟩
  | 46 => ⟨S1x1x48x64, .f32⟩
  | 47 => ⟨S3x16x48x64, .f32⟩
  | 48 => ⟨S3x16x48x64, .f32⟩
  | 49 => ⟨S3x16x48x64, .f32⟩
  | 50 => ⟨S1x1x48x64, .f32⟩
  | 51 => ⟨S3x16x48x64, .f32⟩
  | 52 => ⟨S3x16x48x64, .f32⟩
  | 53 => ⟨S_, .f32⟩
  | 54 => ⟨S3x16x48x64, .f32⟩
  | 55 => ⟨S3x16x48x64, .f32⟩
  | 56 => ⟨S_, .f32⟩
  | 57 => ⟨S3x16x48, .f32⟩
  | 58 => ⟨S3x16x48x1, .f32⟩
  | 59 => ⟨S3x16x48x64, .f32⟩
  | 60 => ⟨S3x16x48x64, .f32⟩
  | 61 => ⟨S3x16x48x64, .f32⟩
  | 62 => ⟨S_, .f32⟩
  | 63 => ⟨S3x16x48, .f32⟩
  | 64 => ⟨S3x16x48x1, .f32⟩
  | 65 => ⟨S3x16x48x64, .f32⟩
  | 66 => ⟨S3x16x48x64, .f32⟩
  | 67 => ⟨S3x16x48x64, .f32⟩
  | 68 => ⟨S_, .f32⟩
  | 69 => ⟨S3x16x48x1, .f32⟩
  | 70 => ⟨S3x16x48x1, .f32⟩
  | 71 => ⟨S3x16x48x64, .f32⟩
  | 72 => ⟨S3x16x48x64, .f32⟩
  | 73 => ⟨S3x48x64x16, .f32⟩
  | 74 => ⟨S3x16x48x64, .f32⟩
  | 75 => ⟨S3x1x48x64, .f32⟩
  | 76 => ⟨S3x16x48x64, .f32⟩
  | 77 => ⟨S3x16x48x64, .f32⟩
  | 78 => ⟨S3x48x64x16, .f32⟩
  | 79 => ⟨S3x16x48x64, .f32⟩
  | 80 => ⟨S3x16x48x64, .f32⟩
  | 81 => ⟨S3x16x48x1, .f32⟩
  | 82 => ⟨S3x16x48x64, .f32⟩
  | 83 => ⟨S3x16x48x64, .f32⟩
  | 84 => ⟨S3x48x64x64, .f32⟩
  | 85 => ⟨S3x48x64x64, .f32⟩
  | 86 => ⟨S_, .f32⟩
  | 87 => ⟨S3x48x64, .f32⟩
  | 88 => ⟨S3x48x64, .f32⟩
  | 89 => ⟨S1x3x16x48x64, .f32⟩
  | 90 => ⟨S_, .i32⟩
  | 91 => ⟨S_, .i32⟩
  | 92 => ⟨S_, .i32⟩
  | 93 => ⟨S_, .i32⟩
  | 94 => ⟨S40x3x16x48x64, .f32⟩
  | 95 => ⟨S_, .i32⟩
  | 96 => ⟨S_, .i32⟩
  | 97 => ⟨S_, .f32⟩
  | 98 => ⟨S40x3x16x48, .f32⟩
  | 99 => ⟨S40x3x16x48x1, .f32⟩
  | 100 => ⟨S_, .f32⟩
  | 101 => ⟨S40x3x16x48x1, .f32⟩
  | 102 => ⟨S40x3x16x48x1, .f32⟩
  | 103 => ⟨S40x3x16x48x64, .f32⟩
  | 104 => ⟨S40x3x16x48x64, .f32⟩
  | 105 => ⟨S40x3x16x48x64, .f32⟩
  | 106 => ⟨S_, .f32⟩
  | 107 => ⟨S40x3x16x48, .f32⟩
  | 108 => ⟨S40x3x16x48x1, .f32⟩
  | 109 => ⟨S_, .f32⟩
  | 110 => ⟨S40x3x16x48x1, .f32⟩
  | 111 => ⟨S40x3x16x48x1, .f32⟩
  | 112 => ⟨S_, .f32⟩
  | 113 => ⟨S40x3x16x48x1, .f32⟩
  | 114 => ⟨S40x3x16x48x1, .f32⟩
  | 115 => ⟨S40x3x16x48x1, .f32⟩
  | 116 => ⟨S40x3x16x48x64, .f32⟩
  | 117 => ⟨S40x3x16x48x64, .f32⟩
  | 118 => ⟨S1x1x1x48x64, .f32⟩
  | 119 => ⟨S40x3x16x48x64, .f32⟩
  | 120 => ⟨S40x3x16x48x64, .f32⟩
  | 121 => ⟨S40x3x16x48x64, .f32⟩
  | 122 => ⟨S1x1x1x48x64, .f32⟩
  | 123 => ⟨S40x3x16x48x64, .f32⟩
  | 124 => ⟨S40x3x16x48x64, .f32⟩
  | 125 => ⟨S3x40x16x48x64, .f32⟩
  | 126 => ⟨S3x640x48x64, .f32⟩
  | 127 => ⟨S3x640x48x64, .bf16⟩
  | _ => ⟨S3x640x48x64, .fp8e4m3⟩

abbrev hbmTy0_2 (i : Nat) : BufTy := match i % 128 with
  | 0 => ⟨S3x40x16x48x64, .f32⟩
  | 1 => ⟨S3x640x48x64, .f32⟩
  | _ => ⟨S3x640x48x64, .fp8e4m3⟩

abbrev hbmTy (i : Nat) : BufTy := match i / 128 with
  | 0 => hbmTy0_0 i
  | 1 => hbmTy0_1 i
  | 2 => hbmTy0_2 i
  | _ => ⟨S3x640x48x64, .fp8e4m3⟩

abbrev bufTy : (tb : Table) → Fin (tcTables nBuf tb) → BufTy
  | .hbm, ⟨i, _⟩ => hbmTy i
  | .local _ .vmem, ⟨0, _⟩ => ⟨S3x640x48x64, .fp8e4m3⟩
  | .local _ .vmem, ⟨1, _⟩ => ⟨S3x640x48x64, .fp8e4m3⟩
  | .local _ .vmem, ⟨2, _⟩ => ⟨S3x640x48x64, .fp8e4m3⟩
  | .local _ .vmem, ⟨3, _⟩ => ⟨S3x640x48x64, .f32⟩
  | .local _ .vmem, ⟨4, _⟩ => ⟨S3x640x48x64, .f32⟩
  | .local _ .vmem, ⟨5, _⟩ => ⟨S3x640x48x64, .f32⟩
  | _, _ => ⟨S3x640x48x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_v52 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v53 : Ref sig .tc := ⟨.hbm, 82, rfl⟩
abbrev main_v54 : Ref sig .tc := ⟨.hbm, 83, rfl⟩
abbrev main_cst_4 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_5 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v58 : Ref sig .tc := ⟨.hbm, 92, rfl⟩
abbrev main_cst_6 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_7 : Ref sig .tc := ⟨.hbm, 100, rfl⟩
abbrev main_v65 : Ref sig .tc := ⟨.hbm, 101, rfl⟩
abbrev main_c_8 : Ref sig .tc := ⟨.hbm, 102, rfl⟩
abbrev main_v66_0 : Ref sig .tc := ⟨.hbm, 103, rfl⟩
abbrev main_v66_1 : Ref sig .tc := ⟨.hbm, 104, rfl⟩
abbrev main_v66_2 : Ref sig .tc := ⟨.hbm, 105, rfl⟩
abbrev main_v66_3 : Ref sig .tc := ⟨.hbm, 106, rfl⟩
abbrev main_v66_4 : Ref sig .tc := ⟨.hbm, 107, rfl⟩
abbrev main_v66_5 : Ref sig .tc := ⟨.hbm, 108, rfl⟩
abbrev main_v66_6 : Ref sig .tc := ⟨.hbm, 109, rfl⟩
abbrev main_v66_7 : Ref sig .tc := ⟨.hbm, 110, rfl⟩
abbrev main_v66_8 : Ref sig .tc := ⟨.hbm, 111, rfl⟩
abbrev main_v66_9 : Ref sig .tc := ⟨.hbm, 112, rfl⟩
abbrev main_v66_10 : Ref sig .tc := ⟨.hbm, 113, rfl⟩
abbrev main_while0c_c_24 : Ref sig .tc := ⟨.hbm, 114, rfl⟩
abbrev main_while0c_v95 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_c_1 : Ref sig .tc := ⟨.hbm, 118, rfl⟩
abbrev main_while0b_call2_c_2 : Ref sig .tc := ⟨.hbm, 119, rfl⟩
abbrev main_while0b_call2_v0 : Ref sig .tc := ⟨.hbm, 120, rfl⟩
abbrev main_while0b_v95 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_c_1 : Ref sig .tc := ⟨.hbm, 124, rfl⟩
abbrev main_while0b_call3_c_2 : Ref sig .tc := ⟨.hbm, 125, rfl⟩
abbrev main_while0b_call3_v0 : Ref sig .tc := ⟨.hbm, 126, rfl⟩
abbrev main_while0b_v96 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_call4_v0 : Ref sig .tc := ⟨.hbm, 132, rfl⟩
abbrev main_while0b_v97 : Ref sig .tc := ⟨.hbm, 133, rfl⟩
abbrev main_while0b_call5_c : Ref sig .tc := ⟨.hbm, 134, rfl⟩
abbrev main_while0b_call5_c_0 : Ref sig .tc := ⟨.hbm, 135, rfl⟩
abbrev main_while0b_call5_c_1 : Ref sig .tc := ⟨.hbm, 136, rfl⟩
abbrev main_while0b_call5_c_2 : Ref sig .tc := ⟨.hbm, 137, rfl⟩
abbrev main_while0b_call5_v0 : Ref sig .tc := ⟨.hbm, 138, rfl⟩
abbrev main_while0b_v98 : Ref sig .tc := ⟨.hbm, 139, rfl⟩
abbrev main_while0b_call6_c : Ref sig .tc := ⟨.hbm, 140, rfl⟩
abbrev main_while0b_call6_c_0 : Ref sig .tc := ⟨.hbm, 141, rfl⟩
abbrev main_while0b_call6_c_1 : Ref sig .tc := ⟨.hbm, 142, rfl⟩
abbrev main_while0b_call6_v0 : Ref sig .tc := ⟨.hbm, 143, rfl⟩
abbrev main_while0b_v99 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_cst_24 : Ref sig .tc := ⟨.hbm, 150, rfl⟩
abbrev main_while0b_v105 : Ref sig .tc := ⟨.hbm, 151, rfl⟩
abbrev main_while0b_v106 : Ref sig .tc := ⟨.hbm, 152, rfl⟩
abbrev main_while0b_cst_25 : Ref sig .tc := ⟨.hbm, 153, rfl⟩
abbrev main_while0b_v107 : Ref sig .tc := ⟨.hbm, 154, rfl⟩
abbrev main_while0b_v108 : Ref sig .tc := ⟨.hbm, 155, rfl⟩
abbrev main_while0b_v109 : Ref sig .tc := ⟨.hbm, 156, rfl⟩
abbrev main_while0b_v110 : Ref sig .tc := ⟨.hbm, 157, rfl⟩
abbrev main_while0b_v111 : Ref sig .tc := ⟨.hbm, 158, rfl⟩
abbrev main_while0b_cst_26 : Ref sig .tc := ⟨.hbm, 159, rfl⟩
abbrev main_while0b_v112 : Ref sig .tc := ⟨.hbm, 160, rfl⟩
abbrev main_while0b_v113 : Ref sig .tc := ⟨.hbm, 161, rfl⟩
abbrev main_while0b_cst_27 : Ref sig .tc := ⟨.hbm, 162, rfl⟩
abbrev main_while0b_v114 : Ref sig .tc := ⟨.hbm, 163, rfl⟩
abbrev main_while0b_v115 : Ref sig .tc := ⟨.hbm, 164, rfl⟩
abbrev main_while0b_cst_28 : Ref sig .tc := ⟨.hbm, 165, rfl⟩
abbrev main_while0b_v116 : Ref sig .tc := ⟨.hbm, 166, rfl⟩
abbrev main_while0b_v117 : Ref sig .tc := ⟨.hbm, 167, rfl⟩
abbrev main_while0b_v118 : Ref sig .tc := ⟨.hbm, 168, rfl⟩
abbrev main_while0b_v119 : Ref sig .tc := ⟨.hbm, 169, rfl⟩
abbrev main_while0b_v120 : Ref sig .tc := ⟨.hbm, 170, rfl⟩
abbrev main_while0b_v121 : Ref sig .tc := ⟨.hbm, 171, rfl⟩
abbrev main_while0b_v122 : Ref sig .tc := ⟨.hbm, 172, rfl⟩
abbrev main_while0b_v123 : Ref sig .tc := ⟨.hbm, 173, rfl⟩
abbrev main_while0b_v124 : Ref sig .tc := ⟨.hbm, 174, rfl⟩
abbrev main_while0b_v125 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_v129 : Ref sig .tc := ⟨.hbm, 179, rfl⟩
abbrev main_while0b_v130 : Ref sig .tc := ⟨.hbm, 180, rfl⟩
abbrev main_while0b_cst_29 : Ref sig .tc := ⟨.hbm, 181, rfl⟩
abbrev main_while0b_v131 : Ref sig .tc := ⟨.hbm, 182, rfl⟩
abbrev main_while0b_v132 : Ref sig .tc := ⟨.hbm, 183, rfl⟩
abbrev main_while0b_cst_30 : Ref sig .tc := ⟨.hbm, 184, rfl⟩
abbrev main_while0b_v133 : Ref sig .tc := ⟨.hbm, 185, rfl⟩
abbrev main_while0b_v134 : Ref sig .tc := ⟨.hbm, 186, rfl⟩
abbrev main_while0b_v135 : Ref sig .tc := ⟨.hbm, 187, rfl⟩
abbrev main_while0b_v136 : Ref sig .tc := ⟨.hbm, 188, rfl⟩
abbrev main_while0b_v137 : Ref sig .tc := ⟨.hbm, 189, rfl⟩
abbrev main_while0b_cst_31 : Ref sig .tc := ⟨.hbm, 190, rfl⟩
abbrev main_while0b_v138 : Ref sig .tc := ⟨.hbm, 191, rfl⟩
abbrev main_while0b_v139 : Ref sig .tc := ⟨.hbm, 192, rfl⟩
abbrev main_while0b_v140 : Ref sig .tc := ⟨.hbm, 193, rfl⟩
abbrev main_while0b_v141 : Ref sig .tc := ⟨.hbm, 194, rfl⟩
abbrev main_while0b_v142 : Ref sig .tc := ⟨.hbm, 195, rfl⟩
abbrev main_while0b_cst_32 : Ref sig .tc := ⟨.hbm, 196, rfl⟩
abbrev main_while0b_v143 : Ref sig .tc := ⟨.hbm, 197, rfl⟩
abbrev main_while0b_v144 : Ref sig .tc := ⟨.hbm, 198, rfl⟩
abbrev main_while0b_v145 : Ref sig .tc := ⟨.hbm, 199, rfl⟩
abbrev main_while0b_v146 : Ref sig .tc := ⟨.hbm, 200, rfl⟩
abbrev main_while0b_v147 : Ref sig .tc := ⟨.hbm, 201, rfl⟩
abbrev main_while0b_v148 : Ref sig .tc := ⟨.hbm, 202, rfl⟩
abbrev main_while0b_v149 : Ref sig .tc := ⟨.hbm, 203, rfl⟩
abbrev main_while0b_v150 : Ref sig .tc := ⟨.hbm, 204, rfl⟩
abbrev main_while0b_v151 : Ref sig .tc := ⟨.hbm, 205, rfl⟩
abbrev main_while0b_v152 : Ref sig .tc := ⟨.hbm, 206, rfl⟩
abbrev main_while0b_v153 : Ref sig .tc := ⟨.hbm, 207, rfl⟩
abbrev main_while0b_v154 : Ref sig .tc := ⟨.hbm, 208, rfl⟩
abbrev main_while0b_v155 : Ref sig .tc := ⟨.hbm, 209, rfl⟩
abbrev main_while0b_v156 : Ref sig .tc := ⟨.hbm, 210, rfl⟩
abbrev main_while0b_v157 : Ref sig .tc := ⟨.hbm, 211, rfl⟩
abbrev main_while0b_v158 : Ref sig .tc := ⟨.hbm, 212, rfl⟩
abbrev main_while0b_v159 : Ref sig .tc := ⟨.hbm, 213, rfl⟩
abbrev main_while0b_cst_33 : Ref sig .tc := ⟨.hbm, 214, rfl⟩
abbrev main_while0b_v160 : Ref sig .tc := ⟨.hbm, 215, rfl⟩
abbrev main_while0b_v161 : Ref sig .tc := ⟨.hbm, 216, rfl⟩
abbrev main_while0b_call7_v0 : Ref sig .tc := ⟨.hbm, 217, rfl⟩
abbrev main_while0b_call7_c : Ref sig .tc := ⟨.hbm, 218, rfl⟩
abbrev main_while0b_call7_c_0 : Ref sig .tc := ⟨.hbm, 219, rfl⟩
abbrev main_while0b_call7_c_1 : Ref sig .tc := ⟨.hbm, 220, rfl⟩
abbrev main_while0b_call7_c_2 : Ref sig .tc := ⟨.hbm, 221, rfl⟩
abbrev main_while0b_v162 : Ref sig .tc := ⟨.hbm, 222, rfl⟩
abbrev main_while0b_c_34 : Ref sig .tc := ⟨.hbm, 223, rfl⟩
abbrev main_while0b_v163 : Ref sig .tc := ⟨.hbm, 224, rfl⟩
abbrev main_cst_9 : Ref sig .tc := ⟨.hbm, 225, rfl⟩
abbrev main_v67 : Ref sig .tc := ⟨.hbm, 226, rfl⟩
abbrev main_v68 : Ref sig .tc := ⟨.hbm, 227, rfl⟩
abbrev main_cst_10 : Ref sig .tc := ⟨.hbm, 228, rfl⟩
abbrev main_v69 : Ref sig .tc := ⟨.hbm, 229, rfl⟩
abbrev main_v70 : Ref sig .tc := ⟨.hbm, 230, rfl⟩
abbrev main_v71 : Ref sig .tc := ⟨.hbm, 231, rfl⟩
abbrev main_v72 : Ref sig .tc := ⟨.hbm, 232, rfl⟩
abbrev main_v73 : Ref sig .tc := ⟨.hbm, 233, rfl⟩
abbrev main_cst_11 : Ref sig .tc := ⟨.hbm, 234, rfl⟩
abbrev main_v74 : Ref sig .tc := ⟨.hbm, 235, rfl⟩
abbrev main_v75 : Ref sig .tc := ⟨.hbm, 236, rfl⟩
abbrev main_cst_12 : Ref sig .tc := ⟨.hbm, 237, rfl⟩
abbrev main_v76 : Ref sig .tc := ⟨.hbm, 238, rfl⟩
abbrev main_v77 : Ref sig .tc := ⟨.hbm, 239, rfl⟩
abbrev main_cst_13 : Ref sig .tc := ⟨.hbm, 240, rfl⟩
abbrev main_v78 : Ref sig .tc := ⟨.hbm, 241, rfl⟩
abbrev main_v79 : Ref sig .tc := ⟨.hbm, 242, rfl⟩
abbrev main_v80 : Ref sig .tc := ⟨.hbm, 243, rfl⟩
abbrev main_v81 : Ref sig .tc := ⟨.hbm, 244, rfl⟩
abbrev main_v82 : Ref sig .tc := ⟨.hbm, 245, rfl⟩
abbrev main_v83 : Ref sig .tc := ⟨.hbm, 246, rfl⟩
abbrev main_v84 : Ref sig .tc := ⟨.hbm, 247, rfl⟩
abbrev main_v85 : Ref sig .tc := ⟨.hbm, 248, rfl⟩
abbrev main_v86 : Ref sig .tc := ⟨.hbm, 249, rfl⟩
abbrev main_v87 : Ref sig .tc := ⟨.hbm, 250, rfl⟩
abbrev main_v88 : Ref sig .tc := ⟨.hbm, 251, rfl⟩
abbrev main_v89 : Ref sig .tc := ⟨.hbm, 252, rfl⟩
abbrev main_v90 : Ref sig .tc := ⟨.hbm, 253, rfl⟩
abbrev main_v91 : Ref sig .tc := ⟨.hbm, 254, rfl⟩
abbrev main_v92 : Ref sig .tc := ⟨.hbm, 255, rfl⟩
abbrev main_v93 : Ref sig .tc := ⟨.hbm, 256, rfl⟩
abbrev main_v94 : Ref sig .tc := ⟨.hbm, 257, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev main_while0_count : Scf.Loop 32 := ⟨0#32, 40#32, 1#32⟩

abbrev grid0 : Pipeline.Grid := .none

abbrev stage0_0 : Fin 1 → Memref sig .tc .vmem S3x640x48x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x48x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x48x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x48x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x48x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x48x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.HeadStep.lean ====
/- One chunk of the kernel's recurrence, as tensor functions: from the weights (transposed) and the bias held before the
   chunk and the chunk's keys, queries, targets, learning rates and scores to the weights and bias after it and the
   chunk's two output columns. Then one whole head, chunk after chunk, and the statement that a trip of the kernel's loop
   over heads stores exactly these. -/
module

public import proofs.«01_k».proof.Defs
public import proofs.«01_k».proof.Proof.Gen.KernelIdeal.Loops

@[expose] public section

set_option maxRecDepth 16384

noncomputable section

namespace Cert.KernelIdeal.Val

open Idealize.ShloMosaic Idealize.ShloMosaic.TcCoe Idealize.SL Idealize.SL.Sem
open Cert.KernelIdeal.Gen

variable {F : FTy → Type} [FloatOps F]

/-- The mean of a 64 × 16 column block over its 64 rows. -/
def meanRow (x : FVec F S64x16 .f32) : FVec F S1x16 .f32 :=
  divf (shapeCast S1x16 (multiReduction .add [0] S16 x 0x00000000#32 reduces_S64x16_S16 (.inl rfl) rfl) shapeCasts_S16_S1x16)
    (broadcast S1x16 (Scalar.ofBits .f32 0x42800000#32))

/-- The sum over the 64 rows, spread back over them. -/
def sumRow (x : FVec F S64x16 .f32) : FVec F S64x16 .f32 :=
  broadcastTo S64x16 (shapeCast S1x16 (multiReduction .add [0] S16 x 0x00000000#32 reduces_S64x16_S16 (.inl rfl) rfl) shapeCasts_S16_S1x16)
    broadcasts_S1x16_S64x16

/-- A column block less its mean. -/
def center (x : FVec F S64x16 .f32) : FVec F S64x16 .f32 :=
  subf x (broadcastTo S64x16 (meanRow x) broadcasts_S1x16_S64x16)

/-- The standard deviation of a centred column block. -/
def stdRow (zc : FVec F S64x16 .f32) : FVec F S1x16 .f32 :=
  sqrt (addf (meanRow (mulf zc zc)) (broadcast S1x16 (Scalar.ofBits .f32 0x358637BD#32)))

/-- The normalised column block, from the centred one. -/
def normC (zc : FVec F S64x16 .f32) : FVec F S64x16 .f32 :=
  divf zc (broadcastTo S64x16 (stdRow zc) broadcasts_S1x16_S64x16)

/-- Weights times columns plus bias. -/
def lin (wt : FVec F S64x64 .f32) (b : FVec F S64x1 .f32) (k : FVec F S64x16 .f32) : FVec F S64x16 .f32 :=
  addf (matmul dot_S64x64_S64x16_S64x16_1_0_0_1_n_n (some .fp32) wt k (constant S64x16 .f32 0x00000000#32))
    (broadcastTo S64x16 b broadcasts_S64x1_S64x16)

/-- The gradient at the normalised output. -/
def gradOut (gm bt : FVec F S64x1 .f32) (t xh : FVec F S64x16 .f32) : FVec F S64x16 .f32 :=
  mulf (subf (addf (mulf (broadcastTo S64x16 gm broadcasts_S64x1_S64x16) xh) (broadcastTo S64x16 bt broadcasts_S64x1_S64x16)) t)
    (broadcastTo S64x16 gm broadcasts_S64x1_S64x16)

/-- The gradient through the normalisation, times the learning rates. -/
def gradZ (lc : FVec F S1x16 .f32) (std : FVec F S1x16 .f32) (xh go : FVec F S64x16 .f32) : FVec F S64x16 .f32 :=
  mulf (divf (subf (subf (mulf (broadcast S64x16 (Scalar.ofBits .f32 0x42800000#32)) go) (sumRow go))
      (mulf xh (sumRow (mulf go xh))))
    (broadcastTo S64x16 (mulf (broadcast S1x16 (Scalar.ofBits .f32 0x42800000#32)) std) broadcasts_S1x16_S64x16))
    (broadcastTo S64x16 lc broadcasts_S1x16_S64x16)

/-- One chunk's keys, queries, targets, learning rates and scores. -/
structure Chunk (F : FTy → Type) where
  kc : FVec F S64x16 .f32
  qc : FVec F S64x16 .f32
  tc : FVec F S64x16 .f32
  lc : FVec F S1x16 .f32
  sc : FVec F S16x16 .f32

/-- The gradient of a chunk. -/
def gradOf (gm bt : FVec F S64x1 .f32) (C : Chunk F) (wt : FVec F S64x64 .f32) (b : FVec F S64x1 .f32) : FVec F S64x16 .f32 :=
  gradZ C.lc (stdRow (center (lin wt b C.kc))) (normC (center (lin wt b C.kc)))
    (gradOut gm bt C.tc (normC (center (lin wt b C.kc))))

/-- A sixteenth of the gradient. -/
def gradEnd (gm bt : FVec F S64x1 .f32) (C : Chunk F) (wt : FVec F S64x64 .f32) (b : FVec F S64x1 .f32) : FVec F S64x16 .f32 :=
  mulf (gradOf gm bt C wt b) (broadcast S64x16 (Scalar.ofBits .f32 0x3D800000#32))

/-- The weights after a chunk. -/
def nextW (gm bt : FVec F S64x1 .f32) (C : Chunk F) (wt : FVec F S64x64 .f32) (b : FVec F S64x1 .f32) : FVec F S64x64 .f32 :=
  subf wt (matmul dot_S64x16_S64x16_S64x64_1_1_0_0_n_n (some .fp32) (gradEnd gm bt C wt b) C.kc (constant S64x64 .f32 0x00000000#32))

/-- The bias after a chunk. -/
def nextB (gm bt : FVec F S64x1 .f32) (C : Chunk F) (wt : FVec F S64x64 .f32) (b : FVec F S64x1 .f32) : FVec F S64x1 .f32 :=
  subf b (shapeCast S64x1 (multiReduction .add [1] S64 (gradEnd gm bt C wt b) 0x00000000#32 reduces_S64x16_S64 (.inl rfl) rfl) shapeCasts_S64_S64x1)

/-- The chunk's pre-normalisation output. -/
def zbarOf (gm bt : FVec F S64x1 .f32) (C : Chunk F) (wt : FVec F S64x64 .f32) (b : FVec F S64x1 .f32) : FVec F S64x16 .f32 :=
  subf (lin wt b C.qc)
    (matmul dot_S64x16_S16x16_S64x16_1_0_0_1_n_n (some .fp32) (gradOf gm bt C wt b)
      (mulf k1_pay1 (addf C.sc (broadcast S16x16 (Scalar.ofBits .f32 0x3F800000#32)))) (constant S64x16 .f32 0x00000000#32))

/-- The chunk's output, from its pre-normalisation output. -/
def outOf (gm bt : FVec F S64x1 .f32) (C : Chunk F) (zb : FVec F S64x16 .f32) : FVec F S64x16 .f32 :=
  addf (addf C.qc (mulf (broadcastTo S64x16 gm broadcasts_S64x1_S64x16) (normC (center zb))))
    (broadcastTo S64x16 bt broadcasts_S64x1_S64x16)

/-- The loads of one 128-token block of a head. -/
structure Blk (F : FTy → Type) where
  q8 : FVec F S64x128 .fp8e4m3
  k8 : FVec F S64x128 .fp8e4m3
  v8 : FVec F S64x128 .fp8e4m3
  qs : FVec F S1x128 .f32
  ks : FVec F S1x128 .f32
  vs : FVec F S1x128 .f32
  lr : FVec F S1x128 .f32

theorem slices64 (j : Fin 8) : S64x128.Slices ![0, 16 * j.val] S64x16 := by revert j; decide
theorem slices1 (j : Fin 8) : S1x128.Slices ![0, 16 * j.val] S1x16 := by revert j; decide
theorem slices128 (j : Fin 8) : S128x128.Slices ![16 * j.val, 16 * j.val] S16x16 := by revert j; decide

/-- A block's dequantised keys. -/
def Blk.kf (B : Blk F) : FVec F S64x128 .f32 := mulf (extf .f32 B.k8 bitsLt_fp8e4m3_f32) (broadcastTo S64x128 B.ks broadcasts_S1x128_S64x128)

/-- Chunk `j` of a block. -/
def Blk.chunk (B : Blk F) (j : Fin 8) : Chunk F where
  kc := extractStridedSlice S64x16 ![0, 16 * j.val] B.kf (slices64 j)
  qc := extractStridedSlice S64x16 ![0, 16 * j.val] (mulf (extf .f32 B.q8 bitsLt_fp8e4m3_f32) (broadcastTo S64x128 B.qs broadcasts_S1x128_S64x128)) (slices64 j)
  tc := extractStridedSlice S64x16 ![0, 16 * j.val] (subf (mulf (extf .f32 B.v8 bitsLt_fp8e4m3_f32) (broadcastTo S64x128 B.vs broadcasts_S1x128_S64x128)) B.kf) (slices64 j)
  lc := extractStridedSlice S1x16 ![0, 16 * j.val] B.lr (slices1 j)
  sc := extractStridedSlice S16x16 ![16 * j.val, 16 * j.val]
    (mulf (matmul dot_S64x128_S64x128_S128x128_0_0_1_1_n_n none B.k8 B.q8 (constant S128x128 .f32 0x00000000#32))
      (broadcastTo S128x128 (mulf B.qs B.ks) broadcasts_S1x128_S128x128)) (slices128 j)

/-- Chunk `n` of a head, the head's five blocks being `B`. -/
def chunkAt (B : ℕ → Blk F) (n : ℕ) : Chunk F := (B (n / 8)).chunk ⟨n % 8, Nat.mod_lt _ (by decide)⟩

/-- The weights and bias before chunk `n`. -/
def stt (gm bt : FVec F S64x1 .f32) (ch : ℕ → Chunk F) (wt : FVec F S64x64 .f32) (b : FVec F S64x1 .f32) : ℕ → FVec F S64x64 .f32 × FVec F S64x1 .f32
  | 0 => (wt, b)
  | n + 1 => (nextW gm bt (ch n) (stt gm bt ch wt b n).1 (stt gm bt ch wt b n).2,
      nextB gm bt (ch n) (stt gm bt ch wt b n).1 (stt gm bt ch wt b n).2)

/-- The pre-normalisation output of chunk `n`. -/
def zbarAt (gm bt : FVec F S64x1 .f32) (ch : ℕ → Chunk F) (wt : FVec F S64x64 .f32) (b : FVec F S64x1 .f32) (n : ℕ) : FVec F S64x16 .f32 :=
  zbarOf gm bt (ch n) (stt gm bt ch wt b n).1 (stt gm bt ch wt b n).2

/-- The output of chunk `n`. -/
def outAt (gm bt : FVec F S64x1 .f32) (ch : ℕ → Chunk F) (wt : FVec F S64x64 .f32) (b : FVec F S64x1 .f32) (n : ℕ) : FVec F S64x16 .f32 :=
  outOf gm bt (ch n) (zbarAt gm bt ch wt b n)

/-- Eight chunks' columns side by side. -/
def cat8 (f : ℕ → FVec F S64x16 .f32) (j : ℕ) : FVec F S64x128 .f32 :=
  concatenate S64x128 1 [⟨S64x16, f (8 * j)⟩, ⟨S64x16, f (8 * j + 1)⟩, ⟨S64x16, f (8 * j + 2)⟩, ⟨S64x16, f (8 * j + 3)⟩, ⟨S64x16, f (8 * j + 4)⟩,
    ⟨S64x16, f (8 * j + 5)⟩, ⟨S64x16, f (8 * j + 6)⟩, ⟨S64x16, f (8 * j + 7)⟩]
    concatenates_S64x16_S64x16_S64x16_S64x16_S64x16_S64x16_S64x16_S64x16_S64x128_d1

section trip
variable (𝒱 : Variants) (c : Dev nD) (bd : Option 𝒱.V) (i : grid1.Coords) (arg2 : Memref sig .tc .vmem S1x8x64x640 .fp8e4m3) (harg2 : arg2.IsWhole) (arg3 : Memref sig .tc .vmem S1x8x64x640 .fp8e4m3) (harg3 : arg3.IsWhole) (arg4 : Memref sig .tc .vmem S1x8x64x640 .fp8e4m3) (harg4 : arg4.IsWhole) (arg5 : Memref sig .tc .vmem S1x8x1x640 .f32) (harg5 : arg5.IsWhole) (arg6 : Memref sig .tc .vmem S1x8x1x640 .f32) (harg6 : arg6.IsWhole) (arg7 : Memref sig .tc .vmem S1x8x1x640 .f32) (harg7 : arg7.IsWhole) (arg8 : Memref sig .tc .vmem S1x8x1x640 .f32) (harg8 : arg8.IsWhole) (arg9 : Memref sig .tc .vmem S8x64x64 .f32) (harg9 : arg9.IsWhole) (arg10 : Memref sig .tc .vmem S8x64x1 .f32) (harg10 : arg10.IsWhole) (arg11 : Memref sig .tc .vmem S8x64x1 .f32) (harg11 : arg11.IsWhole) (arg12 : Memref sig .tc .vmem S8x64x1 .f32) (harg12 : arg12.IsWhole) (arg13 : Memref sig .tc .vmem S1x8x64x640 .bf16) (harg13 : arg13.IsWhole) (arg14 : Memref sig .tc .vmem S1x8x64x640 .f32) (harg14 : arg14.IsWhole) (arg15 : Memref sig .tc .vmem S1x8x64x64 .f32) (harg15 : arg15.IsWhole) (arg16 : Memref sig .tc .vmem S1x8x64x1 .f32) (harg16 : arg16.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k1_t1_loop.trips)

/-- The loads of a block at given offsets. -/
def blkAt (o : Fin 4 → ℕ) (ho : ∀ a, o a + S1x1x64x128.size a ≤ S1x8x64x640.size a) (o' : Fin 4 → ℕ)
    (ho' : ∀ a, o' a + S1x1x1x128.size a ≤ S1x8x1x640.size a) : Blk F where
  q8 := shapeCast S64x128 (View.readAt (Elt F) arg2.view (Rect.unit (s := S1x8x64x640) o S1x1x64x128.size ho).toLoadRect X_arg2) shapeCasts_S1x1x64x128_S64x128
  k8 := shapeCast S64x128 (View.readAt (Elt F) arg3.view (Rect.unit (s := S1x8x64x640) o S1x1x64x128.size ho).toLoadRect X_arg3) shapeCasts_S1x1x64x128_S64x128
  v8 := shapeCast S64x128 (View.readAt (Elt F) arg4.view (Rect.unit (s := S1x8x64x640) o S1x1x64x128.size ho).toLoadRect X_arg4) shapeCasts_S1x1x64x128_S64x128
  qs := shapeCast S1x128 (View.readAt (Elt F) arg5.view (Rect.unit (s := S1x8x1x640) o' S1x1x1x128.size ho').toLoadRect X_arg5) shapeCasts_S1x1x1x128_S1x128
  ks := shapeCast S1x128 (View.readAt (Elt F) arg6.view (Rect.unit (s := S1x8x1x640) o' S1x1x1x128.size ho').toLoadRect X_arg6) shapeCasts_S1x1x1x128_S1x128
  vs := shapeCast S1x128 (View.readAt (Elt F) arg7.view (Rect.unit (s := S1x8x1x640) o' S1x1x1x128.size ho').toLoadRect X_arg7) shapeCasts_S1x1x1x128_S1x128
  lr := shapeCast S1x128 (View.readAt (Elt F) arg8.view (Rect.unit (s := S1x8x1x640) o' S1x1x1x128.size ho').toLoadRect X_arg8) shapeCasts_S1x1x1x128_S1x128

/-- The loads of block `j` of head `k`. -/
def blkOf (j : ℕ) : Blk F := match j with
  | 0 => blkAt arg2 arg3 arg4 arg5 arg6 arg7 arg8 X_arg2 X_arg3 X_arg4 X_arg5 X_arg6 X_arg7 X_arg8 (k1_off3 k) (k1_off3_inb k) (k1_off4 k) (k1_off4_inb k)
  | 1 => blkAt arg2 arg3 arg4 arg5 arg6 arg7 arg8 X_arg2 X_arg3 X_arg4 X_arg5 X_arg6 X_arg7 X_arg8 (k1_off5 k) (k1_off5_inb k) (k1_off6 k) (k1_off6_inb k)
  | 2 => blkAt arg2 arg3 arg4 arg5 arg6 arg7 arg8 X_arg2 X_arg3 X_arg4 X_arg5 X_arg6 X_arg7 X_arg8 (k1_off7 k) (k1_off7_inb k) (k1_off8 k) (k1_off8_inb k)
  | 3 => blkAt arg2 arg3 arg4 arg5 arg6 arg7 arg8 X_arg2 X_arg3 X_arg4 X_arg5 X_arg6 X_arg7 X_arg8 (k1_off9 k) (k1_off9_inb k) (k1_off10 k) (k1_off10_inb k)
  | _ => blkAt arg2 arg3 arg4 arg5 arg6 arg7 arg8 X_arg2 X_arg3 X_arg4 X_arg5 X_arg6 X_arg7 X_arg8 (k1_off11 k) (k1_off11_inb k) (k1_off12 k) (k1_off12_inb k)

/-- The starting weights of head `k`, transposed. -/
def wtOf : FVec F S64x64 .f32 := transpose S64x64 [1, 0] (shapeCast S64x64 (View.readAt (Elt F) arg9.view (Rect.unit (s := S8x64x64) (k1_off1 k) S1x64x64.size (k1_off1_inb k)).toLoadRect X_arg9) shapeCasts_S1x64x64_S64x64) transposes_S64x64_p1_0_S64x64
/-- Row `k` of a per-head column operand. -/
def colOf (a : Memref sig .tc .vmem S8x64x1 .f32) (X : BufTy.Contents (Elt F) a.view.ty) : FVec F S64x1 .f32 :=
  shapeCast S64x1 (View.readAt (Elt F) a.view (Rect.unit (s := S8x64x1) (k1_off2 k) S1x64x1.size (k1_off2_inb k)).toLoadRect X) shapeCasts_S1x64x1_S64x1

/-- Head `k`'s chunk data, weights and bias before chunk `n`, and outputs of chunk `n`. -/
abbrev hCh : ℕ → Chunk F := chunkAt (blkOf arg2 arg3 arg4 arg5 arg6 arg7 arg8 X_arg2 X_arg3 X_arg4 X_arg5 X_arg6 X_arg7 X_arg8 k)
abbrev hSt (n : ℕ) := stt (colOf k arg11 X_arg11) (colOf k arg12 X_arg12) (hCh arg2 arg3 arg4 arg5 arg6 arg7 arg8 X_arg2 X_arg3 X_arg4 X_arg5 X_arg6 X_arg7 X_arg8 k) (wtOf arg9 X_arg9 k) (colOf k arg10 X_arg10) n
abbrev hZ (n : ℕ) := zbarAt (colOf k arg11 X_arg11) (colOf k arg12 X_arg12) (hCh arg2 arg3 arg4 arg5 arg6 arg7 arg8 X_arg2 X_arg3 X_arg4 X_arg5 X_arg6 X_arg7 X_arg8 k) (wtOf arg9 X_arg9 k) (colOf k arg10 X_arg10) n
abbrev hO (n : ℕ) := outAt (colOf k arg11 X_arg11) (colOf k arg12 X_arg12) (hCh arg2 arg3 arg4 arg5 arg6 arg7 arg8 X_arg2 X_arg3 X_arg4 X_arg5 X_arg6 X_arg7 X_arg8 k) (wtOf arg9 X_arg9 k) (colOf k arg10 X_arg10) n

end trip

end Cert.KernelIdeal.Val

end
-- ==== Proof.Spec.lean ====
/- The recurrence of one head as plain mathematics over the extended reals: the weights and bias before each chunk of
   sixteen tokens, the gradient of the chunk, and its pre-normalisation and final outputs. -/
module

public import Idealize.ShloMosaic.Lib.Pointwise

@[expose] public section

noncomputable section

namespace Cert.Spec

open Idealize.ShloMosaic

/-- The literals 64, 1e-6 and 16. -/
def c64 : EReal := Ideal.ofBits .f32 0x42800000#32
def ceps : EReal := Ideal.ofBits .f32 0x358637BD#32
def c16 : EReal := Ideal.ofBits .f32 0x41800000#32

/-- The mean of 64 values, the values less their mean, the deviation of centred values, the normalised values. -/
def mean (v : Fin 64 → EReal) : EReal := Ideal.div (∑ e, v e) c64
def cen (v : Fin 64 → EReal) (e : Fin 64) : EReal := v e - mean v
def std (z : Fin 64 → EReal) : EReal := Ideal.sqrt (mean (fun e => z e * z e) + ceps)
def nrm (z : Fin 64 → EReal) (e : Fin 64) : EReal := Ideal.div (z e) (std z)

/-- One chunk: keys, queries and targets per token, learning rates, and the scaled scores (query, key). -/
structure Ch where
  k : Fin 16 → Fin 64 → EReal
  q : Fin 16 → Fin 64 → EReal
  t : Fin 16 → Fin 64 → EReal
  lr : Fin 16 → EReal
  a : Fin 16 → Fin 16 → EReal

/-- The linear model's output for one token. -/
def lin (W : Fin 64 → Fin 64 → EReal) (B : Fin 64 → EReal) (k : Fin 64 → EReal) (e : Fin 64) : EReal := (∑ d, k d * W d e) + B e

/-- The gradient at the normalised output. -/
def gout (γ β t xh : Fin 64 → EReal) (e : Fin 64) : EReal := (γ e * xh e + β e - t e) * γ e

/-- The gradient through the normalisation. -/
def gz (sd : EReal) (xh go : Fin 64 → EReal) (e : Fin 64) : EReal :=
  Ideal.div (c64 * go e - (∑ i, go i) - xh e * ∑ i, go i * xh i) (c64 * sd)

variable (γ β : Fin 64 → EReal)

/-- The gradient of token `j`. -/
def grad (C : Ch) (W : Fin 64 → Fin 64 → EReal) (B : Fin 64 → EReal) (j : Fin 16) : Fin 64 → EReal :=
  gz (std (cen (lin W B (C.k j)))) (nrm (cen (lin W B (C.k j)))) (gout γ β (C.t j) (nrm (cen (lin W B (C.k j)))))

/-- The gradient times the chunk-end learning rate. -/
def gend (C : Ch) (W : Fin 64 → Fin 64 → EReal) (B : Fin 64 → EReal) (j : Fin 16) (e : Fin 64) : EReal :=
  grad γ β C W B j e * Ideal.div (C.lr j) c16

/-- The weights after a chunk. -/
def nextW (C : Ch) (W : Fin 64 → Fin 64 → EReal) (B : Fin 64 → EReal) (d e : Fin 64) : EReal :=
  W d e - ∑ j, C.k j d * gend γ β C W B j e

/-- The bias after a chunk. -/
def nextB (C : Ch) (W : Fin 64 → Fin 64 → EReal) (B : Fin 64 → EReal) (e : Fin 64) : EReal :=
  B e - ∑ j, gend γ β C W B j e

/-- The weight of key `j`'s gradient in query `i`'s output. -/
def coef (C : Ch) (i j : Fin 16) : EReal :=
  if j ≤ i then Ideal.div (C.lr j) (((i.val + 1 : ℝ)) : EReal) * (C.a i j + 1) else 0

/-- The pre-normalisation output of token `i`. -/
def zbar (C : Ch) (W : Fin 64 → Fin 64 → EReal) (B : Fin 64 → EReal) (i : Fin 16) (e : Fin 64) : EReal :=
  lin W B (C.q i) e - ∑ j, coef C i j * grad γ β C W B j e

/-- The output of a token, from its query and its pre-normalisation output. -/
def out (q z : Fin 64 → EReal) (e : Fin 64) : EReal := q e + γ e * nrm (cen z) e + β e

/-- The weights and bias before chunk `n`. -/
def st (ch : ℕ → Ch) (W : Fin 64 → Fin 64 → EReal) (B : Fin 64 → EReal) : ℕ → (Fin 64 → Fin 64 → EReal) × (Fin 64 → EReal)
  | 0 => (W, B)
  | n + 1 => (nextW γ β (ch n) (st ch W B n).1 (st ch W B n).2, nextB γ β (ch n) (st ch W B n).1 (st ch W B n).2)

/-- The pre-normalisation output of token `i` of chunk `n`, and its output. -/
def zAt (ch : ℕ → Ch) (W : Fin 64 → Fin 64 → EReal) (B : Fin 64 → EReal) (n : ℕ) (i : Fin 16) : Fin 64 → EReal :=
  zbar γ β (ch n) (st γ β ch W B n).1 (st γ β ch W B n).2 i
def oAt (ch : ℕ → Ch) (W : Fin 64 → Fin 64 → EReal) (B : Fin 64 → EReal) (n : ℕ) (i : Fin 16) : Fin 64 → EReal :=
  out γ β ((ch n).q i) (zAt γ β ch W B n i)

/-- The literal values. -/
theorem c16_eq : c16 = ((16 : ℝ) : EReal) := by
  simp [c16, Ideal.ofBits, Ideal.ieee, -EReal.coe_mul]; norm_num
theorem inv16_eq : Ideal.ofBits .f32 0x3D800000#32 = ((1 / 16 : ℝ) : EReal) := by
  simp [Ideal.ofBits, Ideal.ieee, -EReal.coe_mul]; norm_num

/-- A sixteenth of a product is the product with a sixteenth. -/
theorem mul_sixteenth (g l : EReal) : g * l * Ideal.ofBits .f32 0x3D800000#32 = g * Ideal.div l c16 := by
  rw [c16_eq, inv16_eq, Ideal.div_coe (by norm_num), mul_assoc]

end Cert.Spec

end
-- ==== Proof.HeadMath.lean ====
/- The kernel's chunk functions read at an index: they are the recurrence of `Spec`, weights transposed. -/
module

public import proofs.«01_k».proof.Proof.HeadStep
public import proofs.«01_k».proof.Proof.Spec

@[expose] public section

set_option maxRecDepth 16384

noncomputable section

namespace Cert.KernelIdeal.Val

open Idealize.ShloMosaic Idealize.ShloMosaic.TcCoe Idealize.SL Idealize.SL.Sem
open Cert.KernelIdeal.Gen

/-- Column `j` of a block of columns. -/
abbrev colv (x : FVec Ideal S64x16 .f32) (j : Fin 16) : Fin 64 → EReal := fun e => x (ix2 e j)
/-- A column operand, the transposed weights. -/
abbrev vecv (x : FVec Ideal S64x1 .f32) : Fin 64 → EReal := fun e => x (ix2 e 0)
abbrev matv (x : FVec Ideal S64x64 .f32) : Fin 64 → Fin 64 → EReal := fun d e => x (ix2 e d)
/-- A chunk as plain values. -/
def Chunk.toCh (C : Chunk Ideal) : Spec.Ch where
  k j := colv C.kc j
  q j := colv C.qc j
  t j := colv C.tc j
  lr j := C.lc (ix2 0 j)
  a i j := C.sc (ix2 j i)

theorem meanRow_at (x : FVec Ideal S64x16 .f32) (z : Fin 1) (j : Fin 16) : meanRow x (ix2 z j) = Spec.mean (colv x j) := by
  unfold meanRow; pointwise; rfl

theorem sumRow_at (x : FVec Ideal S64x16 .f32) (e : Fin 64) (j : Fin 16) : sumRow x (ix2 e j) = ∑ i, x (ix2 i j) := by
  unfold sumRow; pointwise

theorem center_at (x : FVec Ideal S64x16 .f32) (e : Fin 64) (j : Fin 16) : center x (ix2 e j) = Spec.cen (colv x j) e := by
  unfold center; pointwise; rw [meanRow_at]; rfl

theorem stdRow_at (x : FVec Ideal S64x16 .f32) (z : Fin 1) (j : Fin 16) : stdRow x (ix2 z j) = Spec.std (colv x j) := by
  unfold stdRow; pointwise; rw [meanRow_at]; rfl

theorem normC_at (x : FVec Ideal S64x16 .f32) (e : Fin 64) (j : Fin 16) : normC x (ix2 e j) = Spec.nrm (colv x j) e := by
  unfold normC; pointwise; rw [stdRow_at]; rfl

theorem lin_at (wt : FVec Ideal S64x64 .f32) (b : FVec Ideal S64x1 .f32) (x : FVec Ideal S64x16 .f32) (e : Fin 64) (j : Fin 16) :
    lin wt b x (ix2 e j) = Spec.lin (matv wt) (vecv b) (colv x j) e := by
  unfold lin; pointwise; unfold Spec.lin; simp only [mul_comm]

theorem colv_center (x : FVec Ideal S64x16 .f32) (j : Fin 16) : colv (center x) j = Spec.cen (colv x j) := funext fun e => center_at x e j
theorem colv_norm (x : FVec Ideal S64x16 .f32) (j : Fin 16) : colv (normC x) j = Spec.nrm (colv x j) := funext fun e => normC_at x e j
theorem colv_lin (wt : FVec Ideal S64x64 .f32) (b : FVec Ideal S64x1 .f32) (x : FVec Ideal S64x16 .f32) (j : Fin 16) :
    colv (lin wt b x) j = Spec.lin (matv wt) (vecv b) (colv x j) := funext fun e => lin_at wt b x e j

theorem gradOut_at (gm bt : FVec Ideal S64x1 .f32) (t xh : FVec Ideal S64x16 .f32) (e : Fin 64) (j : Fin 16) :
    gradOut gm bt t xh (ix2 e j) = Spec.gout (vecv gm) (vecv bt) (colv t j) (colv xh j) e := by
  unfold gradOut; pointwise; rfl

theorem gradZ_at (lc sd : FVec Ideal S1x16 .f32) (xh go : FVec Ideal S64x16 .f32) (e : Fin 64) (j : Fin 16) :
    gradZ lc sd xh go (ix2 e j) = Spec.gz (sd (ix2 0 j)) (colv xh j) (colv go j) e * lc (ix2 0 j) := by
  unfold gradZ; pointwise; rw [sumRow_at, sumRow_at]; pointwise; rfl

theorem gradOf_at (gm bt : FVec Ideal S64x1 .f32) (C : Chunk Ideal) (wt : FVec Ideal S64x64 .f32) (b : FVec Ideal S64x1 .f32) (e : Fin 64) (j : Fin 16) :
    gradOf gm bt C wt b (ix2 e j) = Spec.grad (vecv gm) (vecv bt) C.toCh (matv wt) (vecv b) j e * C.lc (ix2 0 j) := by
  unfold gradOf
  rw [gradZ_at, stdRow_at, colv_norm, colv_center, colv_lin]
  congr 2
  funext i
  rw [colv, gradOut_at, colv_norm, colv_center, colv_lin]
  rfl

theorem gradEnd_at (gm bt : FVec Ideal S64x1 .f32) (C : Chunk Ideal) (wt : FVec Ideal S64x64 .f32) (b : FVec Ideal S64x1 .f32) (e : Fin 64) (j : Fin 16) :
    gradEnd gm bt C wt b (ix2 e j) = Spec.gend (vecv gm) (vecv bt) C.toCh (matv wt) (vecv b) j e := by
  unfold gradEnd; pointwise; rw [gradOf_at, Spec.mul_sixteenth]; rfl

theorem nextW_at (gm bt : FVec Ideal S64x1 .f32) (C : Chunk Ideal) (wt : FVec Ideal S64x64 .f32) (b : FVec Ideal S64x1 .f32) :
    matv (nextW gm bt C wt b) = Spec.nextW (vecv gm) (vecv bt) C.toCh (matv wt) (vecv b) := by
  funext d e
  unfold nextW matv; pointwise; simp only [gradEnd_at]; unfold Spec.nextW
  congr 1; exact Finset.sum_congr rfl fun j _ => mul_comm _ _

theorem nextB_at (gm bt : FVec Ideal S64x1 .f32) (C : Chunk Ideal) (wt : FVec Ideal S64x64 .f32) (b : FVec Ideal S64x1 .f32) :
    vecv (nextB gm bt C wt b) = Spec.nextB (vecv gm) (vecv bt) C.toCh (matv wt) (vecv b) := by
  funext e
  unfold nextB vecv; pointwise; simp only [gradEnd_at]; rfl

/-- The kernel's causal factor at (key, query). -/
theorem fac_at (j i : Fin 16) : (k1_pay1 : FVec Ideal S16x16 .f32) (ix2 j i) = if j ≤ i then ((1 / (i.val + 1 : ℝ) : ℝ) : EReal) else 0 := by
  unfold k1_pay1
  pointwise
  have h1 : (IntOp.cmpi CmpIPredicate.sle (BitVec.ofNat 32 ↑j) (BitVec.ofNat 32 ↑i)) = if j ≤ i then 1#1 else 0#1 := by
    revert j i; decide
  have h2 : (FloatOps.sitofp FTy.f32 (IntOp.addi (BitVec.ofNat 32 ↑i) 1#32) : Ideal .f32) = ((i.val + 1 : ℝ) : EReal) := by
    show (((IntOp.addi (BitVec.ofNat 32 ↑i) 1#32).toInt : ℝ) : EReal) = _
    have : (IntOp.addi (BitVec.ofNat 32 ↑i) 1#32).toInt = (i.val : ℤ) + 1 := by clear h1; revert i; decide
    rw [this]; push_cast; rfl
  rw [h1, h2]
  split
  · have : ((i.val : ℝ) + 1) ≠ 0 := by positivity
    rw [← EReal.coe_one, Ideal.div_coe this, EReal.coe_one, one_mul]; simp [Scalar.select]
  · simp [Scalar.select]

theorem zbarOf_at (gm bt : FVec Ideal S64x1 .f32) (C : Chunk Ideal) (wt : FVec Ideal S64x64 .f32) (b : FVec Ideal S64x1 .f32) (i : Fin 16) :
    colv (zbarOf gm bt C wt b) i = Spec.zbar (vecv gm) (vecv bt) C.toCh (matv wt) (vecv b) i := by
  funext e
  unfold zbarOf colv
  pointwise
  simp only [gradOf_at, fac_at]
  rw [lin_at]
  unfold Spec.zbar
  congr 1
  refine Finset.sum_congr rfl fun j _ => ?_
  unfold Spec.coef
  split
  · have : ((i.val : ℝ) + 1) ≠ 0 := by positivity
    rw [Ideal.div_coe this]
    show _ * C.lc (ix2 0 j) * (_ * (C.sc (ix2 j i) + 1)) = C.lc (ix2 0 j) * _ * (C.sc (ix2 j i) + 1) * _
    generalize Spec.grad _ _ _ _ _ _ _ = g
    generalize C.sc (ix2 j i) + 1 = a
    rw [mul_comm _ g, mul_assoc, mul_assoc]
  · simp

theorem outOf_at (gm bt : FVec Ideal S64x1 .f32) (C : Chunk Ideal) (zb : FVec Ideal S64x16 .f32) (i : Fin 16) :
    colv (outOf gm bt C zb) i = Spec.out (vecv gm) (vecv bt) (C.toCh.q i) (colv zb i) := by
  funext e
  unfold outOf colv; pointwise; rw [normC_at, colv_center]; rfl

end Cert.KernelIdeal.Val

end
-- ==== Proof.HeadLoads.lean ====
/- The loads of a head, and a head's chunks, as plain values of the blocks the launch hands the kernel. -/
module

public import proofs.«01_k».proof.Proof.HeadMath
public import Idealize.ShloMosaic.Lib.WholeRead

@[expose] public section

set_option maxRecDepth 16384

noncomputable section

namespace Cert.KernelIdeal.Val

open Idealize.ShloMosaic Idealize.ShloMosaic.TcCoe Idealize.SL Idealize.SL.Sem
open Cert.KernelIdeal.Gen

/-- Token `t` of chunk `n`. -/
def tok (n : ℕ) (t : Fin 16) : Fin 640 := ⟨(16 * n + t.val) % 640, Nat.mod_lt _ (by decide)⟩

/-- Where a unit rectangle places an index, coordinate by coordinate. -/
theorem unit_idx_eq {s : Shape} (o size : Fin s.rank → ℕ) (ho : ∀ a, o a + size a ≤ s.size a) (i : (Rect.unit o size ho).toLoadRect.shape.Idx) (y : s.Idx)
    (h : ∀ b, o b + (i b).val = (y b).val) : (Rect.unit o size ho).toLoadRect.idx i = y := by
  funext b; apply Fin.ext
  rw [← h b]
  simp [Rect.unit, Rect.toLoadRect, LoadRect.idx]

theorem cast_tok {α : Type} (w : S1x1x64x128.Idx → α) (d : Fin 64) (t : Fin 128) : shapeCast S64x128 w shapeCasts_S1x1x64x128_S64x128 (ix2 d t) = w (ix4 0 0 d t) := by
  pointwise
theorem cast_row {α : Type} (w : S1x1x1x128.Idx → α) (d : Fin 1) (t : Fin 128) : shapeCast S1x128 w shapeCasts_S1x1x1x128_S1x128 (ix2 d t) = w (ix4 0 0 0 t) := by
  pointwise
theorem cast_w {α : Type} (w : S1x64x64.Idx → α) (d e : Fin 64) : shapeCast S64x64 w shapeCasts_S1x64x64_S64x64 (ix2 d e) = w (ix3 0 d e) := by
  pointwise
theorem cast_col {α : Type} (w : S1x64x1.Idx → α) (d : Fin 64) (e : Fin 1) : shapeCast S64x1 w shapeCasts_S1x64x1_S64x1 (ix2 d e) = w (ix3 0 d 0) := by
  pointwise

theorem load_tok {e : EltTy} (a : Memref sig .tc .vmem S1x8x64x640 e) (ha : a.IsWhole) (x : S1x8x64x640.Idx → Elt Ideal e)
    (o : Fin 4 → ℕ) (ho : ∀ a, o a + S1x1x64x128.size a ≤ S1x8x64x640.size a) (k : Fin 8) (J : ℕ) (hJ : J < 5) (h : o = ![0, k.val, 0, 128 * J])
    (d : Fin 64) (t : Fin 128) :
    shapeCast S64x128 (View.readAt (Elt Ideal) a.view (Rect.unit (s := S1x8x64x640) o S1x1x64x128.size ho).toLoadRect (ha.unread x))
      shapeCasts_S1x1x64x128_S64x128 (ix2 d t) = x (ix4 0 k d ⟨128 * J + t.val, by omega⟩) := by
  subst h
  refine (cast_tok _ d t).trans ((ha.readAt_unread x _ _).trans (congrArg x (unit_idx_eq _ _ _ _ _ fun b => ?_)))
  match b with
  | ⟨0, _⟩ => rfl
  | ⟨1, _⟩ => rfl
  | ⟨2, _⟩ => exact Nat.zero_add _
  | ⟨3, _⟩ => rfl

theorem load_row {e : EltTy} (a : Memref sig .tc .vmem S1x8x1x640 e) (ha : a.IsWhole) (x : S1x8x1x640.Idx → Elt Ideal e)
    (o : Fin 4 → ℕ) (ho : ∀ a, o a + S1x1x1x128.size a ≤ S1x8x1x640.size a) (k : Fin 8) (J : ℕ) (hJ : J < 5) (h : o = ![0, k.val, 0, 128 * J])
    (d : Fin 1) (t : Fin 128) :
    shapeCast S1x128 (View.readAt (Elt Ideal) a.view (Rect.unit (s := S1x8x1x640) o S1x1x1x128.size ho).toLoadRect (ha.unread x))
      shapeCasts_S1x1x1x128_S1x128 (ix2 d t) = x (ix4 0 k 0 ⟨128 * J + t.val, by omega⟩) := by
  subst h
  refine (cast_row _ d t).trans ((ha.readAt_unread x _ _).trans (congrArg x (unit_idx_eq _ _ _ _ _ fun b => ?_)))
  match b with
  | ⟨0, _⟩ => rfl
  | ⟨1, _⟩ => rfl
  | ⟨2, _⟩ => rfl
  | ⟨3, _⟩ => rfl

theorem trips_eq : k1_t1_loop.trips = 8 := by decide +kernel

theorem load_w (a : Memref sig .tc .vmem S8x64x64 .f32) (ha : a.IsWhole) (x : S8x64x64.Idx → Elt Ideal .f32) (k : Fin k1_t1_loop.trips) (d e : Fin 64) :
    matv (wtOf a (ha.unread x) k) d e = x (ix3 (k.cast trips_eq) d e) := by
  have ht : ∀ (w : FVec Ideal S64x64 .f32), transpose S64x64 [1, 0] w transposes_S64x64_p1_0_S64x64 (ix2 e d) = w (ix2 d e) := fun w => by pointwise
  refine (ht _).trans ((cast_w _ d e).trans ((ha.readAt_unread x _ _).trans (congrArg x (unit_idx_eq _ _ _ _ _ fun b => ?_))))
  have h : k1_off1 k b = (![k.val, 0, 0] : Fin 3 → ℕ) b := congrFun (k1_off1_eq k) b
  rw [h]; match b with
  | ⟨0, _⟩ => rfl
  | ⟨1, _⟩ => exact Nat.zero_add _
  | ⟨2, _⟩ => exact Nat.zero_add _

theorem load_col (a : Memref sig .tc .vmem S8x64x1 .f32) (ha : a.IsWhole) (x : S8x64x1.Idx → Elt Ideal .f32) (k : Fin k1_t1_loop.trips) (e : Fin 64) :
    vecv (colOf k a (ha.unread x)) e = x (ix3 (k.cast trips_eq) e 0) := by
  refine (cast_col _ e 0).trans ((ha.readAt_unread x _ _).trans (congrArg x (unit_idx_eq _ _ _ _ _ fun b => ?_)))
  have h : k1_off2 k b = (![k.val, 0, 0] : Fin 3 → ℕ) b := congrFun (k1_off2_eq k) b
  rw [h]; match b with
  | ⟨0, _⟩ => rfl
  | ⟨1, _⟩ => exact Nat.zero_add _
  | ⟨2, _⟩ => rfl

/-- Column `t` of chunk `j` in a 128-token block. -/
def at8 (j : Fin 8) (t : Fin 16) : Fin 128 := ⟨16 * j.val + t.val, by omega⟩

/-- A chunk of a block as plain values. -/
theorem chunk_toCh (B : Blk Ideal) (j : Fin 8) : (B.chunk j).toCh =
    { k := fun t d => B.k8 (ix2 d (at8 j t)) * B.ks (ix2 0 (at8 j t))
      q := fun t d => B.q8 (ix2 d (at8 j t)) * B.qs (ix2 0 (at8 j t))
      t := fun t d => B.v8 (ix2 d (at8 j t)) * B.vs (ix2 0 (at8 j t)) - B.k8 (ix2 d (at8 j t)) * B.ks (ix2 0 (at8 j t))
      lr := fun t => B.lr (ix2 0 (at8 j t))
      a := fun i t => (∑ d, B.k8 (ix2 d (at8 j t)) * B.q8 (ix2 d (at8 j i))) * (B.qs (ix2 0 (at8 j i)) * B.ks (ix2 0 (at8 j i))) } := by
  unfold Chunk.toCh Blk.chunk Blk.kf colv at8
  congr 1
  · funext t d; pointwise
  · funext t d; pointwise
  · funext t d; pointwise
  · funext t; pointwise
  · funext i t; pointwise

/-- Chunk `n` of head `k` of the blocks: dequantised keys, queries, targets, learning rates, scores. -/
def blkCh (x0 x1 x2 : S1x8x64x640.Idx → EReal) (x3 x4 x5 x6 : S1x8x1x640.Idx → EReal) (k : Fin 8) (n : ℕ) : Spec.Ch where
  k t d := x1 (ix4 0 k d (tok n t)) * x4 (ix4 0 k 0 (tok n t))
  q t d := x0 (ix4 0 k d (tok n t)) * x3 (ix4 0 k 0 (tok n t))
  t t d := x2 (ix4 0 k d (tok n t)) * x5 (ix4 0 k 0 (tok n t)) - x1 (ix4 0 k d (tok n t)) * x4 (ix4 0 k 0 (tok n t))
  lr t := x6 (ix4 0 k 0 (tok n t))
  a i t := (∑ d, x1 (ix4 0 k d (tok n t)) * x0 (ix4 0 k d (tok n i))) * (x3 (ix4 0 k 0 (tok n i)) * x4 (ix4 0 k 0 (tok n i)))

section loads
variable (arg2 : Memref sig .tc .vmem S1x8x64x640 .fp8e4m3) (harg2 : arg2.IsWhole) (arg3 : Memref sig .tc .vmem S1x8x64x640 .fp8e4m3) (harg3 : arg3.IsWhole) (arg4 : Memref sig .tc .vmem S1x8x64x640 .fp8e4m3) (harg4 : arg4.IsWhole) (arg5 : Memref sig .tc .vmem S1x8x1x640 .f32) (harg5 : arg5.IsWhole) (arg6 : Memref sig .tc .vmem S1x8x1x640 .f32) (harg6 : arg6.IsWhole) (arg7 : Memref sig .tc .vmem S1x8x1x640 .f32) (harg7 : arg7.IsWhole) (arg8 : Memref sig .tc .vmem S1x8x1x640 .f32) (harg8 : arg8.IsWhole)
  (x0 x1 x2 : S1x8x64x640.Idx → EReal) (x3 x4 x5 x6 : S1x8x1x640.Idx → EReal)

theorem blkAt_chunk (o : Fin 4 → ℕ) (ho : ∀ a, o a + S1x1x64x128.size a ≤ S1x8x64x640.size a) (o' : Fin 4 → ℕ)
    (ho' : ∀ a, o' a + S1x1x1x128.size a ≤ S1x8x1x640.size a) (k : Fin 8) (J : ℕ) (hJ : J < 5) (h : o = ![0, k.val, 0, 128 * J]) (h' : o' = ![0, k.val, 0, 128 * J])
    (j : Fin 8) :
    ((blkAt (F := Ideal) arg2 arg3 arg4 arg5 arg6 arg7 arg8 (harg2.unread x0) (harg3.unread x1) (harg4.unread x2) (harg5.unread x3) (harg6.unread x4) (harg7.unread x5) (harg8.unread x6) o ho o' ho').chunk j).toCh
      = blkCh x0 x1 x2 x3 x4 x5 x6 k (8 * J + j.val) := by
  have e : ∀ t : Fin 16, (⟨128 * J + (at8 j t).val, by have := (at8 j t).isLt; omega⟩ : Fin 640) = tok (8 * J + j.val) t := fun t => by
    apply Fin.ext
    show 128 * J + (16 * j.val + t.val) = (16 * (8 * J + j.val) + t.val) % 640
    omega
  rw [chunk_toCh]
  unfold blkCh
  congr 1 <;> unfold blkAt
  · funext t d; simp only [load_tok _ _ _ o ho k J hJ h, load_row _ _ _ o' ho' k J hJ h', e]
  · funext t d; simp only [load_tok _ _ _ o ho k J hJ h, load_row _ _ _ o' ho' k J hJ h', e]
  · funext t d; simp only [load_tok _ _ _ o ho k J hJ h, load_row _ _ _ o' ho' k J hJ h', e]
  · funext t; simp only [load_row _ _ _ o' ho' k J hJ h', e]
  · funext i t; simp only [load_tok _ _ _ o ho k J hJ h, load_row _ _ _ o' ho' k J hJ h', e]

theorem hCh_toCh (k : Fin k1_t1_loop.trips) (n : ℕ) (hn : n < 40) :
    (hCh (F := Ideal) arg2 arg3 arg4 arg5 arg6 arg7 arg8 (harg2.unread x0) (harg3.unread x1) (harg4.unread x2) (harg5.unread x3) (harg6.unread x4) (harg7.unread x5) (harg8.unread x6) k n).toCh
      = blkCh x0 x1 x2 x3 x4 x5 x6 (k.cast trips_eq) n := by
  obtain ⟨J, j, rfl⟩ : ∃ (J : ℕ) (j : Fin 8), n = 8 * J + j.val := ⟨n / 8, ⟨n % 8, Nat.mod_lt _ (by decide)⟩, by simp only []; omega⟩
  have hJ : J < 5 := by omega
  unfold hCh chunkAt
  have e1 : (8 * J + j.val) / 8 = J := by omega
  have e2 : (⟨(8 * J + j.val) % 8, Nat.mod_lt _ (by decide)⟩ : Fin 8) = j := Fin.ext (by simp only []; omega)
  rw [e1, e2]
  unfold blkOf
  interval_cases J
  · exact blkAt_chunk arg2 harg2 arg3 harg3 arg4 harg4 arg5 harg5 arg6 harg6 arg7 harg7 arg8 harg8 x0 x1 x2 x3 x4 x5 x6 _ _ _ _ _ 0 hJ (k1_off3_eq k) (k1_off4_eq k) j
  · exact blkAt_chunk arg2 harg2 arg3 harg3 arg4 harg4 arg5 harg5 arg6 harg6 arg7 harg7 arg8 harg8 x0 x1 x2 x3 x4 x5 x6 _ _ _ _ _ 1 hJ (k1_off5_eq k) (k1_off6_eq k) j
  · exact blkAt_chunk arg2 harg2 arg3 harg3 arg4 harg4 arg5 harg5 arg6 harg6 arg7 harg7 arg8 harg8 x0 x1 x2 x3 x4 x5 x6 _ _ _ _ _ 2 hJ (k1_off7_eq k) (k1_off8_eq k) j
  · exact blkAt_chunk arg2 harg2 arg3 harg3 arg4 harg4 arg5 harg5 arg6 harg6 arg7 harg7 arg8 harg8 x0 x1 x2 x3 x4 x5 x6 _ _ _ _ _ 3 hJ (k1_off9_eq k) (k1_off10_eq k) j
  · exact blkAt_chunk arg2 harg2 arg3 harg3 arg4 harg4 arg5 harg5 arg6 harg6 arg7 harg7 arg8 harg8 x0 x1 x2 x3 x4 x5 x6 _ _ _ _ _ 4 hJ (k1_off11_eq k) (k1_off12_eq k) j

end loads

end Cert.KernelIdeal.Val

end
-- ==== Proof.HeadTrip.lean ====
/- What one trip of the kernel's loop over heads stores: the chunk recurrence's outputs, weights and bias. -/
module
public import proofs.«01_k».proof.Proof.HeadStep
public import Idealize.ShloMosaic.Lib.Pipeline.Regions
@[expose] public section
set_option maxRecDepth 65536
noncomputable section
namespace Cert.KernelIdeal.Val

open Idealize.ShloMosaic Idealize.ShloMosaic.TcCoe Idealize.SL Idealize.SL.Sem
open Cert.KernelIdeal.Gen
variable {F : FTy → Type} [FloatOps F]
variable (𝒱 : Variants) (c : Dev nD) (bd : Option 𝒱.V) (i : grid1.Coords) (arg2 : Memref sig .tc .vmem S1x8x64x640 .fp8e4m3) (harg2 : arg2.IsWhole) (arg3 : Memref sig .tc .vmem S1x8x64x640 .fp8e4m3) (harg3 : arg3.IsWhole) (arg4 : Memref sig .tc .vmem S1x8x64x640 .fp8e4m3) (harg4 : arg4.IsWhole) (arg5 : Memref sig .tc .vmem S1x8x1x640 .f32) (harg5 : arg5.IsWhole) (arg6 : Memref sig .tc .vmem S1x8x1x640 .f32) (harg6 : arg6.IsWhole) (arg7 : Memref sig .tc .vmem S1x8x1x640 .f32) (harg7 : arg7.IsWhole) (arg8 : Memref sig .tc .vmem S1x8x1x640 .f32) (harg8 : arg8.IsWhole) (arg9 : Memref sig .tc .vmem S8x64x64 .f32) (harg9 : arg9.IsWhole) (arg10 : Memref sig .tc .vmem S8x64x1 .f32) (harg10 : arg10.IsWhole) (arg11 : Memref sig .tc .vmem S8x64x1 .f32) (harg11 : arg11.IsWhole) (arg12 : Memref sig .tc .vmem S8x64x1 .f32) (harg12 : arg12.IsWhole) (arg13 : Memref sig .tc .vmem S1x8x64x640 .bf16) (harg13 : arg13.IsWhole) (arg14 : Memref sig .tc .vmem S1x8x64x640 .f32) (harg14 : arg14.IsWhole) (arg15 : Memref sig .tc .vmem S1x8x64x64 .f32) (harg15 : arg15.IsWhole) (arg16 : Memref sig .tc .vmem S1x8x64x1 .f32) (harg16 : arg16.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k1_t1_loop.trips)

/-- The output columns of block `j`, as stored. -/
def outPay (f : ℕ → FVec F S64x16 .f32) (j : ℕ) : FVec F S1x1x64x128 .bf16 := shapeCast S1x1x64x128 (truncf .bf16 (cat8 f j) bitsLt_bf16_f32) shapeCasts_S64x128_S1x1x64x128
/-- The pre-normalisation columns of block `j`, as stored. -/
def zPay (f : ℕ → FVec F S64x16 .f32) (j : ℕ) : FVec F S1x1x64x128 .f32 := shapeCast S1x1x64x128 (cat8 f j) shapeCasts_S64x128_S1x1x64x128

theorem trip_out : (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 k).1 =
    [⟨Rect.unit (s := S1x8x64x640) (k1_off11 k) S1x1x64x128.size (k1_off11_inb k), outPay (hO arg2 arg3 arg4 arg5 arg6 arg7 arg8 arg9 arg10 arg11 arg12 X_arg2 X_arg3 X_arg4 X_arg5 X_arg6 X_arg7 X_arg8 X_arg9 X_arg10 X_arg11 X_arg12 k) 4⟩,
     ⟨Rect.unit (s := S1x8x64x640) (k1_off9 k) S1x1x64x128.size (k1_off9_inb k), outPay (hO arg2 arg3 arg4 arg5 arg6 arg7 arg8 arg9 arg10 arg11 arg12 X_arg2 X_arg3 X_arg4 X_arg5 X_arg6 X_arg7 X_arg8 X_arg9 X_arg10 X_arg11 X_arg12 k) 3⟩,
     ⟨Rect.unit (s := S1x8x64x640) (k1_off7 k) S1x1x64x128.size (k1_off7_inb k), outPay (hO arg2 arg3 arg4 arg5 arg6 arg7 arg8 arg9 arg10 arg11 arg12 X_arg2 X_arg3 X_arg4 X_arg5 X_arg6 X_arg7 X_arg8 X_arg9 X_arg10 X_arg11 X_arg12 k) 2⟩,
     ⟨Rect.unit (s := S1x8x64x640) (k1_off5 k) S1x1x64x128.size (k1_off5_inb k), outPay (hO arg2 arg3 arg4 arg5 arg6 arg7 arg8 arg9 arg10 arg11 arg12 X_arg2 X_arg3 X_arg4 X_arg5 X_arg6 X_arg7 X_arg8 X_arg9 X_arg10 X_arg11 X_arg12 k) 1⟩,
     ⟨Rect.unit (s := S1x8x64x640) (k1_off3 k) S1x1x64x128.size (k1_off3_inb k), outPay (hO arg2 arg3 arg4 arg5 arg6 arg7 arg8 arg9 arg10 arg11 arg12 X_arg2 X_arg3 X_arg4 X_arg5 X_arg6 X_arg7 X_arg8 X_arg9 X_arg10 X_arg11 X_arg12 k) 0⟩] := by
  chain_rfl

theorem trip_z : (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 k).2.1 =
    [⟨Rect.unit (s := S1x8x64x640) (k1_off11 k) S1x1x64x128.size (k1_off11_inb k), zPay (hZ arg2 arg3 arg4 arg5 arg6 arg7 arg8 arg9 arg10 arg11 arg12 X_arg2 X_arg3 X_arg4 X_arg5 X_arg6 X_arg7 X_arg8 X_arg9 X_arg10 X_arg11 X_arg12 k) 4⟩,
     ⟨Rect.unit (s := S1x8x64x640) (k1_off9 k) S1x1x64x128.size (k1_off9_inb k), zPay (hZ arg2 arg3 arg4 arg5 arg6 arg7 arg8 arg9 arg10 arg11 arg12 X_arg2 X_arg3 X_arg4 X_arg5 X_arg6 X_arg7 X_arg8 X_arg9 X_arg10 X_arg11 X_arg12 k) 3⟩,
     ⟨Rect.unit (s := S1x8x64x640) (k1_off7 k) S1x1x64x128.size (k1_off7_inb k), zPay (hZ arg2 arg3 arg4 arg5 arg6 arg7 arg8 arg9 arg10 arg11 arg12 X_arg2 X_arg3 X_arg4 X_arg5 X_arg6 X_arg7 X_arg8 X_arg9 X_arg10 X_arg11 X_arg12 k) 2⟩,
     ⟨Rect.unit (s := S1x8x64x640) (k1_off5 k) S1x1x64x128.size (k1_off5_inb k), zPay (hZ arg2 arg3 arg4 arg5 arg6 arg7 arg8 arg9 arg10 arg11 arg12 X_arg2 X_arg3 X_arg4 X_arg5 X_arg6 X_arg7 X_arg8 X_arg9 X_arg10 X_arg11 X_arg12 k) 1⟩,
     ⟨Rect.unit (s := S1x8x64x640) (k1_off3 k) S1x1x64x128.size (k1_off3_inb k), zPay (hZ arg2 arg3 arg4 arg5 arg6 arg7 arg8 arg9 arg10 arg11 arg12 X_arg2 X_arg3 X_arg4 X_arg5 X_arg6 X_arg7 X_arg8 X_arg9 X_arg10 X_arg11 X_arg12 k) 0⟩] := by
  chain_rfl

theorem trip_w : (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 k).2.2.1 =
    [⟨Rect.unit (s := S1x8x64x64) (k1_off13 k) S1x1x64x64.size (k1_off13_inb k), shapeCast S1x1x64x64 (transpose S64x64 [1, 0] (hSt arg2 arg3 arg4 arg5 arg6 arg7 arg8 arg9 arg10 arg11 arg12 X_arg2 X_arg3 X_arg4 X_arg5 X_arg6 X_arg7 X_arg8 X_arg9 X_arg10 X_arg11 X_arg12 k 40).1 transposes_S64x64_p1_0_S64x64) shapeCasts_S64x64_S1x1x64x64⟩] := by
  chain_rfl

theorem trip_b : (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 k).2.2.2.1 =
    [⟨Rect.unit (s := S1x8x64x1) (k1_off14 k) S1x1x64x1.size (k1_off14_inb k), shapeCast S1x1x64x1 (hSt arg2 arg3 arg4 arg5 arg6 arg7 arg8 arg9 arg10 arg11 arg12 X_arg2 X_arg3 X_arg4 X_arg5 X_arg6 X_arg7 X_arg8 X_arg9 X_arg10 X_arg11 X_arg12 k 40).2 shapeCasts_S64x1_S1x1x64x1⟩] := by
  chain_rfl

end Cert.KernelIdeal.Val

end
-- ==== Proof.HeadValue.lean ====
/- What one grid point's run leaves in its four output blocks: the recurrence of `Spec`, head by head. -/
module

public import proofs.«01_k».proof.Proof.HeadLoads
public import proofs.«01_k».proof.Proof.HeadTrip
public import proofs.«01_k».proof.Proof.Gen.KernelIdeal.Frame

@[expose] public section

set_option maxRecDepth 65536

noncomputable section

namespace Cert.KernelIdeal.Val

open Idealize.ShloMosaic Idealize.ShloMosaic.TcCoe Idealize.SL Idealize.SL.Sem
open Cert.KernelIdeal.Gen

/-- The recurrence over tensors is the recurrence of `Spec`. -/
theorem stt_spec (gm bt : FVec Ideal S64x1 .f32) (ch : ℕ → Chunk Ideal) (wt : FVec Ideal S64x64 .f32) (b : FVec Ideal S64x1 .f32) (sch : ℕ → Spec.Ch)
    (h : ∀ n < 40, (ch n).toCh = sch n) : ∀ n ≤ 40, (matv (stt gm bt ch wt b n).1, vecv (stt gm bt ch wt b n).2)
      = Spec.st (vecv gm) (vecv bt) sch (matv wt) (vecv b) n
  | 0, _ => rfl
  | n + 1, hn => by
    have ih := stt_spec gm bt ch wt b sch h n (by omega)
    have h1 := congrArg Prod.fst ih
    have h2 := congrArg Prod.snd ih
    simp only [] at h1 h2
    unfold stt Spec.st
    rw [nextW_at, nextB_at, h n (by omega), h1, h2]

theorem zbarAt_spec (gm bt : FVec Ideal S64x1 .f32) (ch : ℕ → Chunk Ideal) (wt : FVec Ideal S64x64 .f32) (b : FVec Ideal S64x1 .f32) (sch : ℕ → Spec.Ch)
    (h : ∀ n < 40, (ch n).toCh = sch n) (n : ℕ) (hn : n < 40) (t : Fin 16) :
    colv (zbarAt gm bt ch wt b n) t = Spec.zAt (vecv gm) (vecv bt) sch (matv wt) (vecv b) n t := by
  have ih := stt_spec gm bt ch wt b sch h n (by omega)
  have h1 := congrArg Prod.fst ih
  have h2 := congrArg Prod.snd ih
  simp only [] at h1 h2
  unfold zbarAt Spec.zAt
  rw [zbarOf_at, h n hn, h1, h2]

theorem outAt_spec (gm bt : FVec Ideal S64x1 .f32) (ch : ℕ → Chunk Ideal) (wt : FVec Ideal S64x64 .f32) (b : FVec Ideal S64x1 .f32) (sch : ℕ → Spec.Ch)
    (h : ∀ n < 40, (ch n).toCh = sch n) (n : ℕ) (hn : n < 40) (t : Fin 16) :
    colv (outAt gm bt ch wt b n) t = Spec.oAt (vecv gm) (vecv bt) sch (matv wt) (vecv b) n t := by
  unfold outAt Spec.oAt
  rw [outOf_at, zbarAt_spec gm bt ch wt b sch h n hn, h n hn]

/-- Eight chunks' columns side by side, at an index. -/
theorem cat8_at (f : ℕ → FVec Ideal S64x16 .f32) (J : ℕ) (d : Fin 64) (c : Fin 128) :
    cat8 f J (ix2 d c) = f (8 * J + c.val / 16) (ix2 d ⟨c.val % 16, Nat.mod_lt _ (by decide)⟩) := by
  unfold cat8
  pointwise
  split_ifs with h1 h2 h3 h4 h5 h6 h7
  all_goals (have := c.isLt; congr 2 <;> first | omega | (congr 1; omega))

/-- Token `T`'s chunk and its place there. -/
def cOf (T : Fin 640) : ℕ := T.val / 16
def pOf (T : Fin 640) : Fin 16 := ⟨T.val % 16, Nat.mod_lt _ (by decide)⟩

theorem unit_emb_eq {s : Shape} (o size : Fin s.rank → ℕ) (ho : ∀ a, o a + size a ≤ s.size a) (i : (Rect.unit o size ho).shape.Idx) (y : s.Idx)
    (h : ∀ b, o b + (i b).val = (y b).val) : (Rect.unit o size ho).emb i = y := unit_idx_eq o size ho i y h

/-- A stored 128-column piece is the block of `G` it lands on, when the columns are. -/
theorem piece_tok (p : S1x1x64x128.Idx → EReal) (f : ℕ → FVec Ideal S64x16 .f32) (J : ℕ) (hJ : J < 5)
    (hp : ∀ d t, p (ix4 0 0 d t) = cat8 f J (ix2 d t)) (k : Fin 8) (g : Fin 8 → ℕ → Fin 16 → Fin 64 → EReal)
    (hf : ∀ n < 40, ∀ t, colv (f n) t = g k n t)
    (o : Fin 4 → ℕ) (ho : ∀ a, o a + S1x1x64x128.size a ≤ S1x8x64x640.size a) (h : o = ![0, k.val, 0, 128 * J])
    (x : S1x1x64x128.Idx) :
    p x = (fun y : S1x8x64x640.Idx => g (y 1) (cOf (y 3)) (pOf (y 3)) (y 2)) ((Rect.unit (s := S1x8x64x640) o S1x1x64x128.size ho).emb x) := by
  subst h
  obtain ⟨a, b, d, t, rfl⟩ : ∃ a b d t, x = ix4 (n0 := 1) (n1 := 1) (n2 := 64) (n3 := 128) a b d t := ⟨x 0, x 1, x 2, x 3, eq_ix4 (n0 := 1) (n1 := 1) (n2 := 64) (n3 := 128) x⟩
  obtain rfl : a = 0 := Subsingleton.elim _ _
  obtain rfl : b = 0 := Subsingleton.elim _ _
  have ht := t.isLt
  have e : (Rect.unit (s := S1x8x64x640) ![0, k.val, 0, 128 * J] S1x1x64x128.size ho).emb (ix4 0 0 d t) = ix4 0 k d ⟨128 * J + t.val, by omega⟩ :=
    unit_emb_eq _ _ _ _ _ fun b => match b with
      | ⟨0, _⟩ => rfl
      | ⟨1, _⟩ => rfl
      | ⟨2, _⟩ => Nat.zero_add _
      | ⟨3, _⟩ => rfl
  rw [e, hp, cat8_at]
  show _ = g k (cOf ⟨128 * J + t.val, _⟩) (pOf ⟨128 * J + t.val, _⟩) d
  have e1 : cOf ⟨128 * J + t.val, by omega⟩ = 8 * J + t.val / 16 := by show (128 * J + t.val) / 16 = _; omega
  have e2 : pOf ⟨128 * J + t.val, by omega⟩ = ⟨t.val % 16, Nat.mod_lt _ (by decide)⟩ := Fin.ext (by show (128 * J + t.val) % 16 = t.val % 16; omega)
  rw [e1, e2]
  exact congrFun (hf (8 * J + t.val / 16) (by omega) _) d

theorem outPay_at (f : ℕ → FVec Ideal S64x16 .f32) (J : ℕ) (d : Fin 64) (t : Fin 128) : outPay f J (ix4 0 0 d t) = cat8 f J (ix2 d t) := by
  unfold outPay; generalize cat8 f J = w; pointwise
theorem zPay_at (f : ℕ → FVec Ideal S64x16 .f32) (J : ℕ) (d : Fin 64) (t : Fin 128) : zPay f J (ix4 0 0 d t) = cat8 f J (ix2 d t) := by
  unfold zPay; generalize cat8 f J = w; pointwise

/-- The stored weights and bias of a head are the blocks they land on. -/
theorem piece_w (w : FVec Ideal S64x64 .f32) (g : Fin 8 → Fin 64 → Fin 64 → EReal) (k : Fin 8) (hw : matv w = g k)
    (o : Fin 4 → ℕ) (ho : ∀ a, o a + S1x1x64x64.size a ≤ S1x8x64x64.size a) (h : o = ![0, k.val, 0, 0]) (x : S1x1x64x64.Idx) :
    shapeCast S1x1x64x64 (transpose S64x64 [1, 0] w transposes_S64x64_p1_0_S64x64) shapeCasts_S64x64_S1x1x64x64 x
      = (fun y : S1x8x64x64.Idx => g (y 1) (y 2) (y 3)) ((Rect.unit (s := S1x8x64x64) o S1x1x64x64.size ho).emb x) := by
  subst h
  obtain ⟨a, b, d, t, rfl⟩ : ∃ a b d t, x = ix4 (n0 := 1) (n1 := 1) (n2 := 64) (n3 := 64) a b d t := ⟨x 0, x 1, x 2, x 3, eq_ix4 (n0 := 1) (n1 := 1) (n2 := 64) (n3 := 64) x⟩
  obtain rfl : a = 0 := Subsingleton.elim _ _
  obtain rfl : b = 0 := Subsingleton.elim _ _
  have e : (Rect.unit (s := S1x8x64x64) ![0, k.val, 0, 0] S1x1x64x64.size ho).emb (ix4 0 0 d t) = ix4 0 k d t :=
    unit_emb_eq _ _ _ _ _ fun b => match b with
      | ⟨0, _⟩ => rfl
      | ⟨1, _⟩ => rfl
      | ⟨2, _⟩ => Nat.zero_add _
      | ⟨3, _⟩ => Nat.zero_add _
  rw [e]
  show _ = g k d t
  rw [← hw]
  pointwise
theorem piece_b (w : FVec Ideal S64x1 .f32) (g : Fin 8 → Fin 64 → EReal) (k : Fin 8) (hw : vecv w = g k)
    (o : Fin 4 → ℕ) (ho : ∀ a, o a + S1x1x64x1.size a ≤ S1x8x64x1.size a) (h : o = ![0, k.val, 0, 0]) (x : S1x1x64x1.Idx) :
    shapeCast S1x1x64x1 w shapeCasts_S64x1_S1x1x64x1 x
      = (fun y : S1x8x64x1.Idx => g (y 1) (y 2)) ((Rect.unit (s := S1x8x64x1) o S1x1x64x1.size ho).emb x) := by
  subst h
  obtain ⟨a, b, d, t, rfl⟩ : ∃ a b d t, x = ix4 (n0 := 1) (n1 := 1) (n2 := 64) (n3 := 1) a b d t := ⟨x 0, x 1, x 2, x 3, eq_ix4 (n0 := 1) (n1 := 1) (n2 := 64) (n3 := 1) x⟩
  obtain rfl : a = 0 := Subsingleton.elim _ _
  obtain rfl : b = 0 := Subsingleton.elim _ _
  obtain rfl : t = 0 := Subsingleton.elim _ _
  have e : (Rect.unit (s := S1x8x64x1) ![0, k.val, 0, 0] S1x1x64x1.size ho).emb (ix4 0 0 d 0) = ix4 0 k d 0 :=
    unit_emb_eq _ _ _ _ _ fun b => match b with
      | ⟨0, _⟩ => rfl
      | ⟨1, _⟩ => rfl
      | ⟨2, _⟩ => Nat.zero_add _
      | ⟨3, _⟩ => rfl
  rw [e]
  show _ = g k d
  rw [← hw]
  pointwise

/-- The four output blocks of a grid point, of the blocks it is handed. -/
def gZ (x0 x1 x2 : Vec Ideal S1x8x64x640 .fp8e4m3) (x3 x4 x5 x6 : Vec Ideal S1x8x1x640 .f32) (x7 : Vec Ideal S8x64x64 .f32) (x8 x9 x10 : Vec Ideal S8x64x1 .f32) (k : Fin 8) (n : ℕ) (t : Fin 16) : Fin 64 → EReal :=
  Spec.zAt (fun e => x9 (ix3 k e 0)) (fun e => x10 (ix3 k e 0)) (blkCh x0 x1 x2 x3 x4 x5 x6 k) (fun d e => x7 (ix3 k d e)) (fun e => x8 (ix3 k e 0)) n t
def gO (x0 x1 x2 : Vec Ideal S1x8x64x640 .fp8e4m3) (x3 x4 x5 x6 : Vec Ideal S1x8x1x640 .f32) (x7 : Vec Ideal S8x64x64 .f32) (x8 x9 x10 : Vec Ideal S8x64x1 .f32) (k : Fin 8) (n : ℕ) (t : Fin 16) : Fin 64 → EReal :=
  Spec.oAt (fun e => x9 (ix3 k e 0)) (fun e => x10 (ix3 k e 0)) (blkCh x0 x1 x2 x3 x4 x5 x6 k) (fun d e => x7 (ix3 k d e)) (fun e => x8 (ix3 k e 0)) n t
def gS (x0 x1 x2 : Vec Ideal S1x8x64x640 .fp8e4m3) (x3 x4 x5 x6 : Vec Ideal S1x8x1x640 .f32) (x7 : Vec Ideal S8x64x64 .f32) (x8 x9 x10 : Vec Ideal S8x64x1 .f32) (k : Fin 8) : (Fin 64 → Fin 64 → EReal) × (Fin 64 → EReal) :=
  Spec.st (fun e => x9 (ix3 k e 0)) (fun e => x10 (ix3 k e 0)) (blkCh x0 x1 x2 x3 x4 x5 x6 k) (fun d e => x7 (ix3 k d e)) (fun e => x8 (ix3 k e 0)) 40
def GZ (x0 x1 x2 : Vec Ideal S1x8x64x640 .fp8e4m3) (x3 x4 x5 x6 : Vec Ideal S1x8x1x640 .f32) (x7 : Vec Ideal S8x64x64 .f32) (x8 x9 x10 : Vec Ideal S8x64x1 .f32) : Vec Ideal S1x8x64x640 .f32 := fun y => gZ x0 x1 x2 x3 x4 x5 x6 x7 x8 x9 x10 (y 1) (cOf (y 3)) (pOf (y 3)) (y 2)
def GO (x0 x1 x2 : Vec Ideal S1x8x64x640 .fp8e4m3) (x3 x4 x5 x6 : Vec Ideal S1x8x1x640 .f32) (x7 : Vec Ideal S8x64x64 .f32) (x8 x9 x10 : Vec Ideal S8x64x1 .f32) : Vec Ideal S1x8x64x640 .bf16 := fun y => gO x0 x1 x2 x3 x4 x5 x6 x7 x8 x9 x10 (y 1) (cOf (y 3)) (pOf (y 3)) (y 2)
def GW (x0 x1 x2 : Vec Ideal S1x8x64x640 .fp8e4m3) (x3 x4 x5 x6 : Vec Ideal S1x8x1x640 .f32) (x7 : Vec Ideal S8x64x64 .f32) (x8 x9 x10 : Vec Ideal S8x64x1 .f32) : Vec Ideal S1x8x64x64 .f32 := fun y => (gS x0 x1 x2 x3 x4 x5 x6 x7 x8 x9 x10 (y 1)).1 (y 2) (y 3)
def GB (x0 x1 x2 : Vec Ideal S1x8x64x640 .fp8e4m3) (x3 x4 x5 x6 : Vec Ideal S1x8x1x640 .f32) (x7 : Vec Ideal S8x64x64 .f32) (x8 x9 x10 : Vec Ideal S8x64x1 .f32) : Vec Ideal S1x8x64x1 .f32 := fun y => (gS x0 x1 x2 x3 x4 x5 x6 x7 x8 x9 x10 (y 1)).2 (y 2)

section run
variable (c : Dev nD) (i : grid1.Coords) (arg2 : Memref sig .tc .vmem S1x8x64x640 .fp8e4m3) (harg2 : arg2.IsWhole) (arg3 : Memref sig .tc .vmem S1x8x64x640 .fp8e4m3) (harg3 : arg3.IsWhole) (arg4 : Memref sig .tc .vmem S1x8x64x640 .fp8e4m3) (harg4 : arg4.IsWhole) (arg5 : Memref sig .tc .vmem S1x8x1x640 .f32) (harg5 : arg5.IsWhole) (arg6 : Memref sig .tc .vmem S1x8x1x640 .f32) (harg6 : arg6.IsWhole) (arg7 : Memref sig .tc .vmem S1x8x1x640 .f32) (harg7 : arg7.IsWhole) (arg8 : Memref sig .tc .vmem S1x8x1x640 .f32) (harg8 : arg8.IsWhole) (arg9 : Memref sig .tc .vmem S8x64x64 .f32) (harg9 : arg9.IsWhole) (arg10 : Memref sig .tc .vmem S8x64x1 .f32) (harg10 : arg10.IsWhole) (arg11 : Memref sig .tc .vmem S8x64x1 .f32) (harg11 : arg11.IsWhole) (arg12 : Memref sig .tc .vmem S8x64x1 .f32) (harg12 : arg12.IsWhole) (arg13 : Memref sig .tc .vmem S1x8x64x640 .bf16) (harg13 : arg13.IsWhole) (arg14 : Memref sig .tc .vmem S1x8x64x640 .f32) (harg14 : arg14.IsWhole) (arg15 : Memref sig .tc .vmem S1x8x64x64 .f32) (harg15 : arg15.IsWhole) (arg16 : Memref sig .tc .vmem S1x8x64x1 .f32) (harg16 : arg16.IsWhole)
  (x0 x1 x2 : Vec Ideal S1x8x64x640 .fp8e4m3) (x3 x4 x5 x6 : Vec Ideal S1x8x1x640 .f32) (x7 : Vec Ideal S8x64x64 .f32) (x8 x9 x10 : Vec Ideal S8x64x1 .f32)

theorem hZ_spec (k : Fin k1_t1_loop.trips) (n : ℕ) (hn : n < 40) (t : Fin 16) :
    colv (hZ (F := Ideal) arg2 arg3 arg4 arg5 arg6 arg7 arg8 arg9 arg10 arg11 arg12 (harg2.unread x0) (harg3.unread x1) (harg4.unread x2) (harg5.unread x3) (harg6.unread x4) (harg7.unread x5) (harg8.unread x6) (harg9.unread x7) (harg10.unread x8) (harg11.unread x9) (harg12.unread x10) k n) t = gZ x0 x1 x2 x3 x4 x5 x6 x7 x8 x9 x10 (k.cast trips_eq) n t := by
  unfold gZ
  refine (zbarAt_spec _ _ _ _ _ _ (fun n hn => hCh_toCh arg2 harg2 arg3 harg3 arg4 harg4 arg5 harg5 arg6 harg6 arg7 harg7 arg8 harg8 x0 x1 x2 x3 x4 x5 x6 k n hn) n hn t).trans ?_
  congr 1
  · funext e; exact load_col arg11 harg11 x9 k e
  · funext e; exact load_col arg12 harg12 x10 k e
  · funext d e; exact load_w arg9 harg9 x7 k d e
  · funext e; exact load_col arg10 harg10 x8 k e

theorem hO_spec (k : Fin k1_t1_loop.trips) (n : ℕ) (hn : n < 40) (t : Fin 16) :
    colv (hO (F := Ideal) arg2 arg3 arg4 arg5 arg6 arg7 arg8 arg9 arg10 arg11 arg12 (harg2.unread x0) (harg3.unread x1) (harg4.unread x2) (harg5.unread x3) (harg6.unread x4) (harg7.unread x5) (harg8.unread x6) (harg9.unread x7) (harg10.unread x8) (harg11.unread x9) (harg12.unread x10) k n) t = gO x0 x1 x2 x3 x4 x5 x6 x7 x8 x9 x10 (k.cast trips_eq) n t := by
  unfold gO
  refine (outAt_spec _ _ _ _ _ _ (fun n hn => hCh_toCh arg2 harg2 arg3 harg3 arg4 harg4 arg5 harg5 arg6 harg6 arg7 harg7 arg8 harg8 x0 x1 x2 x3 x4 x5 x6 k n hn) n hn t).trans ?_
  congr 1
  · funext e; exact load_col arg11 harg11 x9 k e
  · funext e; exact load_col arg12 harg12 x10 k e
  · funext d e; exact load_w arg9 harg9 x7 k d e
  · funext e; exact load_col arg10 harg10 x8 k e

theorem hSt_spec (k : Fin k1_t1_loop.trips) :
    (matv (hSt (F := Ideal) arg2 arg3 arg4 arg5 arg6 arg7 arg8 arg9 arg10 arg11 arg12 (harg2.unread x0) (harg3.unread x1) (harg4.unread x2) (harg5.unread x3) (harg6.unread x4) (harg7.unread x5) (harg8.unread x6) (harg9.unread x7) (harg10.unread x8) (harg11.unread x9) (harg12.unread x10) k 40).1, vecv (hSt (F := Ideal) arg2 arg3 arg4 arg5 arg6 arg7 arg8 arg9 arg10 arg11 arg12 (harg2.unread x0) (harg3.unread x1) (harg4.unread x2) (harg5.unread x3) (harg6.unread x4) (harg7.unread x5) (harg8.unread x6) (harg9.unread x7) (harg10.unread x8) (harg11.unread x9) (harg12.unread x10) k 40).2) = gS x0 x1 x2 x3 x4 x5 x6 x7 x8 x9 x10 (k.cast trips_eq) := by
  unfold gS
  refine (stt_spec _ _ _ _ _ _ (fun n hn => hCh_toCh arg2 harg2 arg3 harg3 arg4 harg4 arg5 harg5 arg6 harg6 arg7 harg7 arg8 harg8 x0 x1 x2 x3 x4 x5 x6 k n hn) 40 le_rfl).trans ?_
  congr 1
  · funext e; exact load_col arg11 harg11 x9 k e
  · funext e; exact load_col arg12 harg12 x10 k e
  · funext d e; exact load_w arg9 harg9 x7 k d e
  · funext e; exact load_col arg10 harg10 x8 k e

/-- Every piece of the run is a block of the outputs. -/
theorem pieces_z : ∀ n, n ≤ 8 → ∀ p ∈ (pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) n).2.1, ∀ x, p.2 x = GZ x0 x1 x2 x3 x4 x5 x6 x7 x8 x9 x10 (p.1.emb x)
  | 0, _ => fun p hp => absurd hp List.not_mem_nil
  | n + 1, hn => by
    have hk : n < k1_t1_loop.trips := by rw [trips_eq]; omega
    rw [pb_k1_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) ⟨n, hk⟩]
    intro p hp x
    rcases List.mem_append.mp hp with hp | hp
    · have hp : p ∈ (trip_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) ⟨n, hk⟩).2.1 := hp
      rw [trip_z] at hp
      simp only [List.mem_cons, List.not_mem_nil, or_false] at hp
      rcases hp with rfl | rfl | rfl | rfl | rfl
      · exact piece_tok _ _ 4 (by decide) (zPay_at _ _) (Fin.cast trips_eq ⟨n, hk⟩) (gZ x0 x1 x2 x3 x4 x5 x6 x7 x8 x9 x10) (fun m hm t => hZ_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩ m hm t) (k1_off11 ⟨n, hk⟩) (k1_off11_inb ⟨n, hk⟩) (k1_off11_eq ⟨n, hk⟩) x
      · exact piece_tok _ _ 3 (by decide) (zPay_at _ _) (Fin.cast trips_eq ⟨n, hk⟩) (gZ x0 x1 x2 x3 x4 x5 x6 x7 x8 x9 x10) (fun m hm t => hZ_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩ m hm t) (k1_off9 ⟨n, hk⟩) (k1_off9_inb ⟨n, hk⟩) (k1_off9_eq ⟨n, hk⟩) x
      · exact piece_tok _ _ 2 (by decide) (zPay_at _ _) (Fin.cast trips_eq ⟨n, hk⟩) (gZ x0 x1 x2 x3 x4 x5 x6 x7 x8 x9 x10) (fun m hm t => hZ_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩ m hm t) (k1_off7 ⟨n, hk⟩) (k1_off7_inb ⟨n, hk⟩) (k1_off7_eq ⟨n, hk⟩) x
      · exact piece_tok _ _ 1 (by decide) (zPay_at _ _) (Fin.cast trips_eq ⟨n, hk⟩) (gZ x0 x1 x2 x3 x4 x5 x6 x7 x8 x9 x10) (fun m hm t => hZ_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩ m hm t) (k1_off5 ⟨n, hk⟩) (k1_off5_inb ⟨n, hk⟩) (k1_off5_eq ⟨n, hk⟩) x
      · exact piece_tok _ _ 0 (by decide) (zPay_at _ _) (Fin.cast trips_eq ⟨n, hk⟩) (gZ x0 x1 x2 x3 x4 x5 x6 x7 x8 x9 x10) (fun m hm t => hZ_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩ m hm t) (k1_off3 ⟨n, hk⟩) (k1_off3_inb ⟨n, hk⟩) (k1_off3_eq ⟨n, hk⟩) x
    · exact pieces_z n (by omega) p hp x

theorem pieces_o : ∀ n, n ≤ 8 → ∀ p ∈ (pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) n).1, ∀ x, p.2 x = GO x0 x1 x2 x3 x4 x5 x6 x7 x8 x9 x10 (p.1.emb x)
  | 0, _ => fun p hp => absurd hp List.not_mem_nil
  | n + 1, hn => by
    have hk : n < k1_t1_loop.trips := by rw [trips_eq]; omega
    rw [pb_k1_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) ⟨n, hk⟩]
    intro p hp x
    rcases List.mem_append.mp hp with hp | hp
    · have hp : p ∈ (trip_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) ⟨n, hk⟩).1 := hp
      rw [trip_out] at hp
      simp only [List.mem_cons, List.not_mem_nil, or_false] at hp
      rcases hp with rfl | rfl | rfl | rfl | rfl
      · exact piece_tok _ _ 4 (by decide) (outPay_at _ _) (Fin.cast trips_eq ⟨n, hk⟩) (gO x0 x1 x2 x3 x4 x5 x6 x7 x8 x9 x10) (fun m hm t => hO_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩ m hm t) (k1_off11 ⟨n, hk⟩) (k1_off11_inb ⟨n, hk⟩) (k1_off11_eq ⟨n, hk⟩) x
      · exact piece_tok _ _ 3 (by decide) (outPay_at _ _) (Fin.cast trips_eq ⟨n, hk⟩) (gO x0 x1 x2 x3 x4 x5 x6 x7 x8 x9 x10) (fun m hm t => hO_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩ m hm t) (k1_off9 ⟨n, hk⟩) (k1_off9_inb ⟨n, hk⟩) (k1_off9_eq ⟨n, hk⟩) x
      · exact piece_tok _ _ 2 (by decide) (outPay_at _ _) (Fin.cast trips_eq ⟨n, hk⟩) (gO x0 x1 x2 x3 x4 x5 x6 x7 x8 x9 x10) (fun m hm t => hO_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩ m hm t) (k1_off7 ⟨n, hk⟩) (k1_off7_inb ⟨n, hk⟩) (k1_off7_eq ⟨n, hk⟩) x
      · exact piece_tok _ _ 1 (by decide) (outPay_at _ _) (Fin.cast trips_eq ⟨n, hk⟩) (gO x0 x1 x2 x3 x4 x5 x6 x7 x8 x9 x10) (fun m hm t => hO_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩ m hm t) (k1_off5 ⟨n, hk⟩) (k1_off5_inb ⟨n, hk⟩) (k1_off5_eq ⟨n, hk⟩) x
      · exact piece_tok _ _ 0 (by decide) (outPay_at _ _) (Fin.cast trips_eq ⟨n, hk⟩) (gO x0 x1 x2 x3 x4 x5 x6 x7 x8 x9 x10) (fun m hm t => hO_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩ m hm t) (k1_off3 ⟨n, hk⟩) (k1_off3_inb ⟨n, hk⟩) (k1_off3_eq ⟨n, hk⟩) x
    · exact pieces_o n (by omega) p hp x

theorem pieces_w : ∀ n, n ≤ 8 → ∀ p ∈ (pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) n).2.2.1, ∀ x, p.2 x = GW x0 x1 x2 x3 x4 x5 x6 x7 x8 x9 x10 (p.1.emb x)
  | 0, _ => fun p hp => absurd hp List.not_mem_nil
  | n + 1, hn => by
    have hk : n < k1_t1_loop.trips := by rw [trips_eq]; omega
    rw [pb_k1_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) ⟨n, hk⟩]
    intro p hp x
    rcases List.mem_append.mp hp with hp | hp
    · have hp : p ∈ (trip_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) ⟨n, hk⟩).2.2.1 := hp
      rw [trip_w] at hp
      simp only [List.mem_cons, List.not_mem_nil, or_false] at hp
      obtain rfl := hp
      exact piece_w (hSt (F := Ideal) arg2 arg3 arg4 arg5 arg6 arg7 arg8 arg9 arg10 arg11 arg12 (harg2.unread x0) (harg3.unread x1) (harg4.unread x2) (harg5.unread x3) (harg6.unread x4) (harg7.unread x5) (harg8.unread x6) (harg9.unread x7) (harg10.unread x8) (harg11.unread x9) (harg12.unread x10) ⟨n, hk⟩ 40).1 (fun k => (gS x0 x1 x2 x3 x4 x5 x6 x7 x8 x9 x10 k).1) (Fin.cast trips_eq ⟨n, hk⟩) (congrArg Prod.fst (hSt_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩)) (k1_off13 ⟨n, hk⟩) (k1_off13_inb ⟨n, hk⟩) (k1_off13_eq ⟨n, hk⟩) x
    · exact pieces_w n (by omega) p hp x

theorem pieces_b : ∀ n, n ≤ 8 → ∀ p ∈ (pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) n).2.2.2, ∀ x, p.2 x = GB x0 x1 x2 x3 x4 x5 x6 x7 x8 x9 x10 (p.1.emb x)
  | 0, _ => fun p hp => absurd hp List.not_mem_nil
  | n + 1, hn => by
    have hk : n < k1_t1_loop.trips := by rw [trips_eq]; omega
    rw [pb_k1_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) ⟨n, hk⟩]
    intro p hp x
    rcases List.mem_append.mp hp with hp | hp
    · have hp : p ∈ (trip_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) ⟨n, hk⟩).2.2.2.1 := hp
      rw [trip_b] at hp
      simp only [List.mem_cons, List.not_mem_nil, or_false] at hp
      obtain rfl := hp
      exact piece_b (hSt (F := Ideal) arg2 arg3 arg4 arg5 arg6 arg7 arg8 arg9 arg10 arg11 arg12 (harg2.unread x0) (harg3.unread x1) (harg4.unread x2) (harg5.unread x3) (harg6.unread x4) (harg7.unread x5) (harg8.unread x6) (harg9.unread x7) (harg10.unread x8) (harg11.unread x9) (harg12.unread x10) ⟨n, hk⟩ 40).2 (fun k => (gS x0 x1 x2 x3 x4 x5 x6 x7 x8 x9 x10 k).2) (Fin.cast trips_eq ⟨n, hk⟩) (congrArg Prod.snd (hSt_spec arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨n, hk⟩)) (k1_off14 ⟨n, hk⟩) (k1_off14_inb ⟨n, hk⟩) (k1_off14_eq ⟨n, hk⟩) x
    · exact pieces_b n (by omega) p hp x

theorem run_o : (kernelRun1_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).1 = (pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) 8).1 := by chain_rfl
theorem run_z : (kernelRun1_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.1 = (pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) 8).2.1 := by chain_rfl
theorem run_w : (kernelRun1_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.2.1 = (pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) 8).2.2.1 := by chain_rfl
theorem run_b : (kernelRun1_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.2.2.1 = (pb_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) 8).2.2.2 := by chain_rfl

/-- What the run leaves in output block 11. -/
theorem out_o : out1_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = GO x0 x1 x2 x3 x4 x5 x6 x7 x8 x9 x10 := by
  unfold out1_A_11
  rw [View.read_writes_junk_eq_canon]
  funext y
  refine View.canon_apply_of_pieces _ _ ?_ y (cover1_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y)
  rw [run_o]
  exact pieces_o c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 8 le_rfl

/-- What the run leaves in output block 12. -/
theorem out_z : out1_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = GZ x0 x1 x2 x3 x4 x5 x6 x7 x8 x9 x10 := by
  unfold out1_A_12
  rw [View.read_writes_junk_eq_canon]
  funext y
  refine View.canon_apply_of_pieces _ _ ?_ y (cover1_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y)
  rw [run_z]
  exact pieces_z c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 8 le_rfl

/-- What the run leaves in output block 13. -/
theorem out_w : out1_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = GW x0 x1 x2 x3 x4 x5 x6 x7 x8 x9 x10 := by
  unfold out1_A_13
  rw [View.read_writes_junk_eq_canon]
  funext y
  refine View.canon_apply_of_pieces _ _ ?_ y (cover1_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y)
  rw [run_w]
  exact pieces_w c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 8 le_rfl

/-- What the run leaves in output block 14. -/
theorem out_b : out1_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = GB x0 x1 x2 x3 x4 x5 x6 x7 x8 x9 x10 := by
  unfold out1_A_14
  rw [View.read_writes_junk_eq_canon]
  funext y
  refine View.canon_apply_of_pieces _ _ ?_ y (cover1_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y)
  rw [run_b]
  exact pieces_b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 8 le_rfl

end run

end Cert.KernelIdeal.Val

end
-- ==== Proof.KernelArrays.lean ====
/- What the second kernel leaves in its four output arrays, as functions of the eleven arrays it reads. -/
module

public import proofs.«01_k».proof.Proof.HeadValue
public import Idealize.ShloMosaic.Lib.Pipeline.ValueKit

@[expose] public section

set_option maxRecDepth 4096

noncomputable section

namespace Cert.KernelIdeal.Val

open Idealize.ShloMosaic Idealize.ShloMosaic.TcCoe Idealize.SL Idealize.SL.Sem
open Cert.KernelIdeal.Gen

/-- Head `h` of batch `b`, chunk `n`: its data, read off whole arrays. -/
def arrCh (q k v : S3x48x64x640.Idx → EReal) (qs ks vs lr : S3x48x1x640.Idx → EReal) (b : Fin 3) (h : Fin 48) (n : ℕ) : Spec.Ch where
  k t d := k (ix4 b h d (tok n t)) * ks (ix4 b h 0 (tok n t))
  q t d := q (ix4 b h d (tok n t)) * qs (ix4 b h 0 (tok n t))
  t t d := v (ix4 b h d (tok n t)) * vs (ix4 b h 0 (tok n t)) - k (ix4 b h d (tok n t)) * ks (ix4 b h 0 (tok n t))
  lr t := lr (ix4 b h 0 (tok n t))
  a i t := (∑ d, k (ix4 b h d (tok n t)) * q (ix4 b h d (tok n i))) * (qs (ix4 b h 0 (tok n i)) * ks (ix4 b h 0 (tok n i)))

/-- The index maps at every grid point. -/
theorem idx : ∀ t : Fin cfg1.N,
    (win1_0.index t = ![t.val / 6, t.val % 6, 0, 0] ∧ win1_1.index t = ![t.val / 6, t.val % 6, 0, 0] ∧ win1_2.index t = ![t.val / 6, t.val % 6, 0, 0]
      ∧ win1_3.index t = ![t.val / 6, t.val % 6, 0, 0] ∧ win1_4.index t = ![t.val / 6, t.val % 6, 0, 0] ∧ win1_5.index t = ![t.val / 6, t.val % 6, 0, 0]
      ∧ win1_6.index t = ![t.val / 6, t.val % 6, 0, 0]) ∧
    (win1_7.index t = ![t.val % 6, 0, 0] ∧ win1_8.index t = ![t.val % 6, 0, 0] ∧ win1_9.index t = ![t.val % 6, 0, 0] ∧ win1_10.index t = ![t.val % 6, 0, 0]) ∧
    (win1_11.index t = ![t.val / 6, t.val % 6, 0, 0] ∧ win1_12.index t = ![t.val / 6, t.val % 6, 0, 0] ∧ win1_13.index t = ![t.val / 6, t.val % 6, 0, 0]
      ∧ win1_14.index t = ![t.val / 6, t.val % 6, 0, 0]) :=
  (by decide +kernel : ∀ t : Fin grid1.N, _)

theorem N_eq : cfg1.N = 18 := by decide +kernel

/-- Grid point `t`'s batch, and its `k`-th head. -/
def bOf (t : Fin cfg1.N) : Fin 3 := ⟨t.val / 6, by have := lt_of_lt_of_eq t.isLt N_eq; omega⟩
def hOf (t : Fin cfg1.N) (k : Fin 8) : Fin 48 := ⟨8 * (t.val % 6) + k.val, by omega⟩

variable (V : (c : Dev nD) → (b : Ref sig .tc) → Buf (Elt Ideal) ((c : Thread nD τ).loc b)) (c : Dev nD)

theorem blk_0 (t : Fin cfg1.N) (k : Fin 8) (d : Fin 64) (T : Fin 640) :
    iblk1 V c 0 t (ix4 0 k d T) = V c main_v0 (ix4 (bOf t) (hOf t k) d T) := by
  blk_ext [iblk1, bOf, hOf, idx t]
theorem blk_1 (t : Fin cfg1.N) (k : Fin 8) (d : Fin 64) (T : Fin 640) :
    iblk1 V c 1 t (ix4 0 k d T) = V c main_v1 (ix4 (bOf t) (hOf t k) d T) := by
  blk_ext [iblk1, bOf, hOf, idx t]
theorem blk_2 (t : Fin cfg1.N) (k : Fin 8) (d : Fin 64) (T : Fin 640) :
    iblk1 V c 2 t (ix4 0 k d T) = V c main_v2 (ix4 (bOf t) (hOf t k) d T) := by
  blk_ext [iblk1, bOf, hOf, idx t]
theorem blk_3 (t : Fin cfg1.N) (k : Fin 8) (T : Fin 640) :
    iblk1 V c 3 t (ix4 0 k 0 T) = V c main_v6 (ix4 (bOf t) (hOf t k) 0 T) := by
  blk_ext [iblk1, bOf, hOf, idx t]
theorem blk_4 (t : Fin cfg1.N) (k : Fin 8) (T : Fin 640) :
    iblk1 V c 4 t (ix4 0 k 0 T) = V c main_v10 (ix4 (bOf t) (hOf t k) 0 T) := by
  blk_ext [iblk1, bOf, hOf, idx t]
theorem blk_5 (t : Fin cfg1.N) (k : Fin 8) (T : Fin 640) :
    iblk1 V c 5 t (ix4 0 k 0 T) = V c main_v14 (ix4 (bOf t) (hOf t k) 0 T) := by
  blk_ext [iblk1, bOf, hOf, idx t]
theorem blk_6 (t : Fin cfg1.N) (k : Fin 8) (T : Fin 640) :
    iblk1 V c 6 t (ix4 0 k 0 T) = V c main_v18 (ix4 (bOf t) (hOf t k) 0 T) := by
  blk_ext [iblk1, bOf, hOf, idx t]
theorem blk_7 (t : Fin cfg1.N) (k : Fin 8) (d e : Fin 64) :
    iblk1 V c 7 t (ix3 k d e) = V c main_arg9 (ix3 (hOf t k) d e) := by
  blk_ext [iblk1, bOf, hOf, idx t]
theorem blk_8 (t : Fin cfg1.N) (k : Fin 8) (d : Fin 64) :
    iblk1 V c 8 t (ix3 k d 0) = V c main_v19 (ix3 (hOf t k) d 0) := by
  blk_ext [iblk1, bOf, hOf, idx t]
theorem blk_9 (t : Fin cfg1.N) (k : Fin 8) (d : Fin 64) :
    iblk1 V c 9 t (ix3 k d 0) = V c main_v20 (ix3 (hOf t k) d 0) := by
  blk_ext [iblk1, bOf, hOf, idx t]
theorem blk_10 (t : Fin cfg1.N) (k : Fin 8) (d : Fin 64) :
    iblk1 V c 10 t (ix3 k d 0) = V c main_v21 (ix3 (hOf t k) d 0) := by
  blk_ext [iblk1, bOf, hOf, idx t]

/-- The data of head `h` of batch `b`, off the arrays the kernel finds. -/
def vCh (b : Fin 3) (h : Fin 48) : ℕ → Spec.Ch :=
  arrCh (V c main_v0) (V c main_v1) (V c main_v2) (V c main_v6) (V c main_v10) (V c main_v14) (V c main_v18) b h
def vG (h : Fin 48) : Fin 64 → EReal := fun e => V c main_v20 (ix3 h e 0)
def vB (h : Fin 48) : Fin 64 → EReal := fun e => V c main_v21 (ix3 h e 0)
def vW0 (h : Fin 48) : Fin 64 → Fin 64 → EReal := fun d e => V c main_arg9 (ix3 h d e)
def vB0 (h : Fin 48) : Fin 64 → EReal := fun e => V c main_v19 (ix3 h e 0)

theorem blkCh_eq (t : Fin cfg1.N) (k : Fin 8) :
    blkCh (iblk1 V c 0 t) (iblk1 V c 1 t) (iblk1 V c 2 t) (iblk1 V c 3 t) (iblk1 V c 4 t) (iblk1 V c 5 t) (iblk1 V c 6 t) k = vCh V c (bOf t) (hOf t k) := by
  funext n
  unfold blkCh vCh arrCh
  simp only [blk_0, blk_1, blk_2, blk_3, blk_4, blk_5, blk_6]

theorem gZ_eq (t : Fin cfg1.N) (k : Fin 8) : gZ (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) k
    = Spec.zAt (vG V c (hOf t k)) (vB V c (hOf t k)) (vCh V c (bOf t) (hOf t k)) (vW0 V c (hOf t k)) (vB0 V c (hOf t k)) := by
  unfold gZ vG vB vW0 vB0
  rw [blkCh_eq]
  simp only [blk_7, blk_8, blk_9, blk_10]

theorem gO_eq (t : Fin cfg1.N) (k : Fin 8) : gO (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) k
    = Spec.oAt (vG V c (hOf t k)) (vB V c (hOf t k)) (vCh V c (bOf t) (hOf t k)) (vW0 V c (hOf t k)) (vB0 V c (hOf t k)) := by
  unfold gO vG vB vW0 vB0
  rw [blkCh_eq]
  simp only [blk_7, blk_8, blk_9, blk_10]

theorem gS_eq (t : Fin cfg1.N) (k : Fin 8) : gS (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) k
    = Spec.st (vG V c (hOf t k)) (vB V c (hOf t k)) (vCh V c (bOf t) (hOf t k)) (vW0 V c (hOf t k)) (vB0 V c (hOf t k)) 40 := by
  unfold gS vG vB vW0 vB0
  rw [blkCh_eq]
  simp only [blk_7, blk_8, blk_9, blk_10]

/-- The four arrays. -/
def AO : Vec Ideal S3x48x64x640 .bf16 := fun y => Spec.oAt (vG V c (y 1)) (vB V c (y 1)) (vCh V c (y 0) (y 1)) (vW0 V c (y 1)) (vB0 V c (y 1)) (cOf (y 3)) (pOf (y 3)) (y 2)
def AZ : Vec Ideal S3x48x64x640 .f32 := fun y => Spec.zAt (vG V c (y 1)) (vB V c (y 1)) (vCh V c (y 0) (y 1)) (vW0 V c (y 1)) (vB0 V c (y 1)) (cOf (y 3)) (pOf (y 3)) (y 2)
def AW : Vec Ideal S3x48x64x64 .f32 := fun y => (Spec.st (vG V c (y 1)) (vB V c (y 1)) (vCh V c (y 0) (y 1)) (vW0 V c (y 1)) (vB0 V c (y 1)) 40).1 (y 2) (y 3)
def AB : Vec Ideal S3x48x64x1 .f32 := fun y => (Spec.st (vG V c (y 1)) (vB V c (y 1)) (vCh V c (y 0) (y 1)) (vW0 V c (y 1)) (vB0 V c (y 1)) 40).2 (y 2)

theorem emb_o (t : Fin cfg1.N) (k : Fin 8) (d : Fin 64) (T : Fin 640) : ((cfg1.win 11).blk t).view.emb (ix4 0 k d T) = ix4 (bOf t) (hOf t k) d T := by
  blk_ext [bOf, hOf, idx t]
theorem block_o (t : Fin cfg1.N) (k : Fin 8) (d : Fin 64) (T : Fin 640) : (dat1 V c).after 11 t (ix4 0 k d T) = AO V c (ix4 (bOf t) (hOf t k) d T) := by
  rw [after1_11]
  unfold outsAt1
  refine (congrFun (out_o _ _ _ _ _ _ _ _ _ _ _ _ _ _ _ _ _ _ _ _ _ _ _ _ _ _ _ _ _ _ _ _ _ _ _ _ _ _ _ _ _ _ _) _).trans ?_
  unfold GO
  simp only [ix4]
  rw [gO_eq]
  rfl

theorem emb_z (t : Fin cfg1.N) (k : Fin 8) (d : Fin 64) (T : Fin 640) : ((cfg1.win 12).blk t).view.emb (ix4 0 k d T) = ix4 (bOf t) (hOf t k) d T := by
  blk_ext [bOf, hOf, idx t]
theorem block_z (t : Fin cfg1.N) (k : Fin 8) (d : Fin 64) (T : Fin 640) : (dat1 V c).after 12 t (ix4 0 k d T) = AZ V c (ix4 (bOf t) (hOf t k) d T) := by
  rw [after1_12]
  unfold outsAt1
  refine (congrFun (out_z _ _ _ _ _ _ _ _ _ _ _ _ _ _ _ _ _ _ _ _ _ _ _ _ _ _ _ _ _ _ _ _ _ _ _ _ _ _ _ _ _ _ _) _).trans ?_
  unfold GZ
  simp only [ix4]
  rw [gZ_eq]
  rfl

theorem emb_w (t : Fin cfg1.N) (k : Fin 8) (d e : Fin 64) : ((cfg1.win 13).blk t).view.emb (ix4 0 k d e) = ix4 (bOf t) (hOf t k) d e := by
  blk_ext [bOf, hOf, idx t]
theorem block_w (t : Fin cfg1.N) (k : Fin 8) (d e : Fin 64) : (dat1 V c).after 13 t (ix4 0 k d e) = AW V c (ix4 (bOf t) (hOf t k) d e) := by
  rw [after1_13]
  unfold outsAt1
  refine (congrFun (out_w _ _ _ _ _ _ _ _ _ _ _ _ _ _ _ _ _ _ _ _ _ _ _ _ _ _ _ _ _ _ _ _ _ _ _ _ _ _ _ _ _ _ _) _).trans ?_
  unfold GW
  simp only [ix4]
  rw [gS_eq]
  rfl

theorem emb_b (t : Fin cfg1.N) (k : Fin 8) (d : Fin 64) : ((cfg1.win 14).blk t).view.emb (ix4 0 k d 0) = ix4 (bOf t) (hOf t k) d 0 := by
  blk_ext [bOf, hOf, idx t]
theorem block_b (t : Fin cfg1.N) (k : Fin 8) (d : Fin 64) : (dat1 V c).after 14 t (ix4 0 k d 0) = AB V c (ix4 (bOf t) (hOf t k) d 0) := by
  rw [after1_14]
  unfold outsAt1
  refine (congrFun (out_b _ _ _ _ _ _ _ _ _ _ _ _ _ _ _ _ _ _ _ _ _ _ _ _ _ _ _ _ _ _ _ _ _ _ _ _ _ _ _ _ _ _ _) _).trans ?_
  unfold GB
  simp only [ix4]
  rw [gS_eq]
  rfl

/-- Output array 11 after the last point. -/
theorem arr_o : (dat1 V c).arrAt 11 cfg1.N = AO V c := by
  refine (dat1 V c).arrAt_eq_of_covers 11 _ (by decide +kernel) fun t _ y => ?_
  refine (Pipeline.Dat.flushed_apply _ _ _ _).trans ?_
  idx_vars y
  obtain rfl : y0 = 0 := Subsingleton.elim _ _
  exact (block_o V c t y1 y2 y3).trans (congrArg (AO V c) (emb_o t y1 y2 y3).symm)

/-- Output array 12 after the last point. -/
theorem arr_z : (dat1 V c).arrAt 12 cfg1.N = AZ V c := by
  refine (dat1 V c).arrAt_eq_of_covers 12 _ (by decide +kernel) fun t _ y => ?_
  refine (Pipeline.Dat.flushed_apply _ _ _ _).trans ?_
  idx_vars y
  obtain rfl : y0 = 0 := Subsingleton.elim _ _
  exact (block_z V c t y1 y2 y3).trans (congrArg (AZ V c) (emb_z t y1 y2 y3).symm)

/-- Output array 13 after the last point. -/
theorem arr_w : (dat1 V c).arrAt 13 cfg1.N = AW V c := by
  refine (dat1 V c).arrAt_eq_of_covers 13 _ (by decide +kernel) fun t _ y => ?_
  refine (Pipeline.Dat.flushed_apply _ _ _ _).trans ?_
  idx_vars y
  obtain rfl : y0 = 0 := Subsingleton.elim _ _
  exact (block_w V c t y1 y2 y3).trans (congrArg (AW V c) (emb_w t y1 y2 y3).symm)

/-- Output array 14 after the last point. -/
theorem arr_b : (dat1 V c).arrAt 14 cfg1.N = AB V c := by
  refine (dat1 V c).arrAt_eq_of_covers 14 _ (by decide +kernel) fun t _ y => ?_
  refine (Pipeline.Dat.flushed_apply _ _ _ _).trans ?_
  idx_vars y
  obtain rfl : y0 = 0 := Subsingleton.elim _ _
  obtain rfl : y3 = 0 := Subsingleton.elim _ _
  exact (block_b V c t y1 y2).trans (congrArg (AB V c) (emb_b t y1 y2).symm)

end Cert.KernelIdeal.Val
-- ==== Proof.SpecArgs.lean ====
/- The thirteen arguments as plain functions, and the four results they determine. -/
module

public import proofs.«01_k».proof.Proof.Spec

@[expose] public section

noncomputable section

namespace Cert.Spec

open Idealize.ShloMosaic

/-- Chunk `n`'s token `t` (of 640), and token `T`'s chunk (of 40). -/
def tok (n : ℕ) (t : Fin 16) : Fin 640 := ⟨(16 * n + t.val) % 640, Nat.mod_lt _ (by decide)⟩
def chunk (T : Fin 640) : Fin 40 := ⟨T.val / 16, by omega⟩
def place (T : Fin 640) : Fin 16 := ⟨T.val % 16, Nat.mod_lt _ (by decide)⟩

/-- The arguments: codes, scales, tokens, the rate's projection, the inner model, the norm. -/
structure Args where
  q : Fin 3 → Fin 640 → Fin 48 → Fin 64 → EReal
  k : Fin 3 → Fin 640 → Fin 48 → Fin 64 → EReal
  v : Fin 3 → Fin 640 → Fin 48 → Fin 64 → EReal
  qs : Fin 3 → Fin 40 → Fin 48 → EReal
  ks : Fin 3 → Fin 40 → Fin 48 → EReal
  vs : Fin 3 → Fin 40 → Fin 48 → EReal
  x : Fin 3 → Fin 640 → Fin 3072 → EReal
  w : Fin 3072 → Fin 48 → EReal
  b : Fin 48 → EReal
  w0 : Fin 48 → Fin 64 → Fin 64 → EReal
  b0 : Fin 48 → Fin 64 → EReal
  gm : Fin 48 → Fin 64 → EReal
  bt : Fin 48 → Fin 64 → EReal

variable (A : Args)

/-- The learning rate of token `T`, head `h`. -/
def rate (s : EReal) : EReal := Ideal.div (Ideal.ofBits .f32 0x40000000#32 * Ideal.logistic s) (Ideal.ofBits .f32 0x42800000#32)
def Args.lr (bt : Fin 3) (T : Fin 640) (h : Fin 48) : EReal := rate ((∑ j, A.x bt T j * A.w j h) + A.b h)

/-- Chunk `n` of head `h` of batch `bt`. -/
def Args.ch (bt : Fin 3) (h : Fin 48) (n : ℕ) : Ch where
  k t d := A.k bt (tok n t) h d * A.ks bt (chunk (tok n t)) h
  q t d := A.q bt (tok n t) h d * A.qs bt (chunk (tok n t)) h
  t t d := A.v bt (tok n t) h d * A.vs bt (chunk (tok n t)) h - A.k bt (tok n t) h d * A.ks bt (chunk (tok n t)) h
  lr t := A.lr bt (tok n t) h
  a i t := (∑ d, A.k bt (tok n t) h d * A.q bt (tok n i) h d) * (A.qs bt (chunk (tok n i)) h * A.ks bt (chunk (tok n i)) h)

/-- The state after `n` chunks, and the two rows of token `T`. -/
def Args.st (bt : Fin 3) (h : Fin 48) (n : ℕ) := Spec.st (A.gm h) (A.bt h) (A.ch bt h) (A.w0 h) (A.b0 h) n
def Args.z (bt : Fin 3) (h : Fin 48) (T : Fin 640) : Fin 64 → EReal := zAt (A.gm h) (A.bt h) (A.ch bt h) (A.w0 h) (A.b0 h) (T.val / 16) (place T)
def Args.o (bt : Fin 3) (h : Fin 48) (T : Fin 640) : Fin 64 → EReal := oAt (A.gm h) (A.bt h) (A.ch bt h) (A.w0 h) (A.b0 h) (T.val / 16) (place T)

end Cert.Spec
-- ==== Proof.KernelHost.lean ====
/- The kernel program's four results, as `Spec` of its arguments: the learning-rate kernel, and the host's layout
   changes around both kernels. -/
module

public import proofs.«01_k».proof.Proof.KernelArrays
public import proofs.«01_k».proof.Proof.SpecArgs
public import Idealize.ShloMosaic.Lib.StableHlo.RunRead
public import Idealize.ShloMosaic.Lib.Pointwise

@[expose] public section

set_option maxRecDepth 16384

noncomputable section

namespace Cert.KernelIdeal.Val

open Idealize.ShloMosaic Idealize.ShloMosaic.TcCoe Idealize.SL Idealize.SL.Sem
open Cert.KernelIdeal.Gen

/-! ## The learning rates -/

theorem idx0 : ∀ t : Fin cfg0.N, win0_0.index t = ![0, 0] ∧ win0_1.index t = ![0, 0] ∧ win0_2.index t = ![t.val / 5, t.val % 5, 0]
    ∧ win0_3.index t = ![t.val / 5, 0, t.val % 5] :=
  (by decide +kernel : ∀ t : Fin grid0.N, _)

theorem N0_eq : cfg0.N = 15 := by decide +kernel

def bOf0 (t : Fin cfg0.N) : Fin 3 := ⟨t.val / 5, by have := lt_of_lt_of_eq t.isLt N0_eq; omega⟩
def tOf0 (t : Fin cfg0.N) (j : Fin 128) : Fin 640 := ⟨128 * (t.val % 5) + j.val, by omega⟩

theorem pay_lr (x2 : Vec Ideal S1x128x3072 .bf16) (x0 : Vec Ideal S48x3072 .f32) (x1 : Vec Ideal S48x1 .f32) (h : Fin 48) (j : Fin 128) :
    k0_pay1 (F := Ideal) x2 x0 x1 (ix3 0 h j) = Spec.rate ((∑ d, x0 (ix2 h d) * x2 (ix3 0 j d)) + x1 (ix2 h 0)) := by
  unfold k0_pay1 Spec.rate
  pointwise

variable (V : (c : Dev nD) → (b : Ref sig .tc) → Buf (Elt Ideal) ((c : Thread nD τ).loc b)) (c : Dev nD)

theorem blk0_0 (t : Fin cfg0.N) (h : Fin 48) (d : Fin 3072) : iblk0 V c 0 t (ix2 h d) = V c main_v15 (ix2 h d) := by
  blk_ext [iblk0, idx0 t]
theorem blk0_1 (t : Fin cfg0.N) (h : Fin 48) : iblk0 V c 1 t (ix2 h 0) = V c main_v16 (ix2 h 0) := by
  blk_ext [iblk0, idx0 t]
theorem blk0_2 (t : Fin cfg0.N) (j : Fin 128) (d : Fin 3072) : iblk0 V c 2 t (ix3 0 j d) = V c main_arg6 (ix3 (bOf0 t) (tOf0 t j) d) := by
  blk_ext [iblk0, bOf0, tOf0, idx0 t]
theorem emb0_3 (t : Fin cfg0.N) (h : Fin 48) (j : Fin 128) : ((cfg0.win 3).blk t).view.emb (ix3 0 h j) = ix3 (bOf0 t) h (tOf0 t j) := by
  blk_ext [bOf0, tOf0, idx0 t]

/-- The array of learning rates, from the projection's transpose, its bias as a column, and the tokens. -/
def lrArr (w : S48x3072.Idx → EReal) (b : S48x1.Idx → EReal) (x : S3x640x3072.Idx → EReal) : Vec Ideal S3x48x640 .f32 := fun y =>
  Spec.rate ((∑ d, w (ix2 (y 1) d) * x (ix3 (y 0) (y 2) d)) + b (ix2 (y 1) 0))

theorem out_lr (x0 : Vec Ideal S48x3072 .f32) (x1 : Vec Ideal S48x1 .f32) (x2 : Vec Ideal S1x128x3072 .bf16) :
    out0_3 (F := Ideal) x0 x1 x2 = k0_pay1 (F := Ideal) x2 x0 x1 := by
  unfold out0_3
  have h2 : (![0, 0] : Fin 2 → ℕ) = fun _ => 0 := by funext a; fin_cases a <;> rfl
  have h3 : (![0, 0, 0] : Fin 3 → ℕ) = fun _ => 0 := by funext a; fin_cases a <;> rfl
  refine (View.canon_unit_zero h3 _ _).trans ?_
  congr 1
  · exact View.ld_unit_zero h3 _ _
  · exact View.ld_unit_zero h2 _ _
  · exact View.ld_unit_zero h2 _ _

theorem arr_lr : (dat0 V c).arrAt 3 cfg0.N = lrArr (V c main_v15) (V c main_v16) (V c main_arg6) := by
  refine (dat0 V c).arrAt_eq_of_covers 3 _ (by decide +kernel) fun t _ y => ?_
  refine (Pipeline.Dat.flushed_apply _ _ _ _).trans ?_
  idx_vars y
  obtain rfl : y0 = 0 := Subsingleton.elim _ _
  refine Eq.trans ?_ (congrArg (lrArr (V c main_v15) (V c main_v16) (V c main_arg6)) (emb0_3 t y1 y2).symm)
  refine (congrFun ((after0_3 V c t).trans (out_lr _ _ _)) (ix3 0 y1 y2)).trans ?_
  refine (pay_lr _ _ _ y1 y2).trans ?_
  simp only [blk0_0, blk0_1, blk0_2]
  rfl

/-! ## The host's layouts -/

section layouts
variable {α : Type}

theorem tok_at (x : S3x640x48x64.Idx → α) (b : Fin 3) (h : Fin 48) (d : Fin 64) (T : Fin 640) :
    transpose S3x48x64x640 [0, 2, 3, 1] x transposes_S3x640x48x64_S3x48x64x640_0_2_3_1 (ix4 b h d T) = x (ix4 b T h d) := by
  pointwise
theorem back_at (x : S3x48x64x640.Idx → α) (b : Fin 3) (h : Fin 48) (d : Fin 64) (T : Fin 640) :
    transpose S3x640x48x64 [0, 3, 1, 2] x transposes_S3x48x64x640_S3x640x48x64_0_3_1_2 (ix4 b T h d) = x (ix4 b h d T) := by
  pointwise
theorem scale_at (x : S3x40x48.Idx → α) (b : Fin 3) (h : Fin 48) (T : Fin 640) :
    broadcastInDim S3x48x1x640 ![0, 1, 3] bcast_S3x48x640_S3x48x1x640_0_1_3 (shapeCast S3x48x640 (broadcastInDim S3x48x40x16 ![0, 1, 2] bcast_S3x48x40_S3x48x40x16_0_1_2
      (transpose S3x48x40 [0, 2, 1] x transposes_S3x40x48_S3x48x40_0_2_1)) shapeCasts_S3x48x40x16_S3x48x640) (ix4 b h 0 T) = x (ix3 b (Spec.chunk T) h) := by
  unfold Spec.chunk
  pointwise
theorem row_at (x : S3x48x640.Idx → α) (b : Fin 3) (h : Fin 48) (T : Fin 640) :
    broadcastInDim S3x48x1x640 ![0, 1, 3] bcast_S3x48x640_S3x48x1x640_0_1_3 x (ix4 b h 0 T) = x (ix3 b h T) := by
  pointwise
theorem col_at (x : S48x64.Idx → α) (h : Fin 48) (e : Fin 64) :
    broadcastInDim S48x64x1 ![0, 1] bcast_S48x64_S48x64x1_0_1 x (ix3 h e 0) = x (ix2 h e) := by
  pointwise
theorem uncol_at (x : S3x48x64x1.Idx → α) (b : Fin 3) (h : Fin 48) (e : Fin 64) :
    shapeCast S3x48x64 x shapeCasts_S3x48x64x1_S3x48x64 (ix3 b h e) = x (ix4 b h e 0) := by
  pointwise
theorem wt_at (x : S3072x48.Idx → α) (h : Fin 48) (d : Fin 3072) :
    transpose S48x3072 [1, 0] x transposes_S3072x48_S48x3072_1_0 (ix2 h d) = x (ix2 d h) := by
  pointwise
theorem bl_at (x : S48.Idx → α) (h : Fin 48) : broadcastInDim S48x1 ![0] bcast_S48_S48x1_0 x (ix2 h 0) = x (ix1 h) := by
  pointwise

end layouts

/-! ## What the kernels find -/

variable (m : (ℓ : Loc nD τ sig) → Buf (Elt Ideal) ℓ) (ρ : Dev nD → PrngReg)

/-- The arguments, read off the launch memory. -/
def kArgs : Spec.Args where
  q b t h d := (m ((c : Thread nD τ).loc main_arg0) : S3x640x48x64.Idx → EReal) (ix4 b t h d)
  k b t h d := (m ((c : Thread nD τ).loc main_arg1) : S3x640x48x64.Idx → EReal) (ix4 b t h d)
  v b t h d := (m ((c : Thread nD τ).loc main_arg2) : S3x640x48x64.Idx → EReal) (ix4 b t h d)
  qs b n h := (m ((c : Thread nD τ).loc main_arg3) : S3x40x48.Idx → EReal) (ix3 b n h)
  ks b n h := (m ((c : Thread nD τ).loc main_arg4) : S3x40x48.Idx → EReal) (ix3 b n h)
  vs b n h := (m ((c : Thread nD τ).loc main_arg5) : S3x40x48.Idx → EReal) (ix3 b n h)
  x b t j := (m ((c : Thread nD τ).loc main_arg6) : S3x640x3072.Idx → EReal) (ix3 b t j)
  w j h := (m ((c : Thread nD τ).loc main_arg7) : S3072x48.Idx → EReal) (ix2 j h)
  b h := (m ((c : Thread nD τ).loc main_arg8) : S48.Idx → EReal) (ix1 h)
  w0 h d e := (m ((c : Thread nD τ).loc main_arg9) : S48x64x64.Idx → EReal) (ix3 h d e)
  b0 h e := (m ((c : Thread nD τ).loc main_arg10) : S48x64.Idx → EReal) (ix2 h e)
  gm h e := (m ((c : Thread nD τ).loc main_arg11) : S48x64.Idx → EReal) (ix2 h e)
  bt h e := (m ((c : Thread nD τ).loc main_arg12) : S48x64.Idx → EReal) (ix2 h e)

theorem w1_v0 : W1 m ρ c (Proc.devRef .tc main_v0) = transpose S3x48x64x640 [0, 2, 3, 1] (m ((c : Thread nD τ).loc main_arg0) : S3x640x48x64.Idx → EReal) transposes_S3x640x48x64_S3x48x64x640_0_2_3_1 := by
  unfold W1; after_reads_simp
theorem w1_v1 : W1 m ρ c (Proc.devRef .tc main_v1) = transpose S3x48x64x640 [0, 2, 3, 1] (m ((c : Thread nD τ).loc main_arg1) : S3x640x48x64.Idx → EReal) transposes_S3x640x48x64_S3x48x64x640_0_2_3_1 := by
  unfold W1; after_reads_simp
theorem w1_v2 : W1 m ρ c (Proc.devRef .tc main_v2) = transpose S3x48x64x640 [0, 2, 3, 1] (m ((c : Thread nD τ).loc main_arg2) : S3x640x48x64.Idx → EReal) transposes_S3x640x48x64_S3x48x64x640_0_2_3_1 := by
  unfold W1; after_reads_simp
theorem w1_v6 : W1 m ρ c (Proc.devRef .tc main_v6) = broadcastInDim S3x48x1x640 ![0, 1, 3] bcast_S3x48x640_S3x48x1x640_0_1_3 (shapeCast S3x48x640 (broadcastInDim S3x48x40x16 ![0, 1, 2] bcast_S3x48x40_S3x48x40x16_0_1_2
      (transpose S3x48x40 [0, 2, 1] (m ((c : Thread nD τ).loc main_arg3) : S3x40x48.Idx → EReal) transposes_S3x40x48_S3x48x40_0_2_1)) shapeCasts_S3x48x40x16_S3x48x640) := by
  unfold W1; after_reads_simp; rfl
theorem w1_v10 : W1 m ρ c (Proc.devRef .tc main_v10) = broadcastInDim S3x48x1x640 ![0, 1, 3] bcast_S3x48x640_S3x48x1x640_0_1_3 (shapeCast S3x48x640 (broadcastInDim S3x48x40x16 ![0, 1, 2] bcast_S3x48x40_S3x48x40x16_0_1_2
      (transpose S3x48x40 [0, 2, 1] (m ((c : Thread nD τ).loc main_arg4) : S3x40x48.Idx → EReal) transposes_S3x40x48_S3x48x40_0_2_1)) shapeCasts_S3x48x40x16_S3x48x640) := by
  unfold W1; after_reads_simp; rfl
theorem w1_v14 : W1 m ρ c (Proc.devRef .tc main_v14) = broadcastInDim S3x48x1x640 ![0, 1, 3] bcast_S3x48x640_S3x48x1x640_0_1_3 (shapeCast S3x48x640 (broadcastInDim S3x48x40x16 ![0, 1, 2] bcast_S3x48x40_S3x48x40x16_0_1_2
      (transpose S3x48x40 [0, 2, 1] (m ((c : Thread nD τ).loc main_arg5) : S3x40x48.Idx → EReal) transposes_S3x40x48_S3x48x40_0_2_1)) shapeCasts_S3x48x40x16_S3x48x640) := by
  unfold W1; after_reads_simp; rfl
theorem w1_v15 : W1 m ρ c (Proc.devRef .tc main_v15) = transpose S48x3072 [1, 0] (m ((c : Thread nD τ).loc main_arg7) : S3072x48.Idx → EReal) transposes_S3072x48_S48x3072_1_0 := by
  unfold W1; after_reads_simp
theorem w1_v16 : W1 m ρ c (Proc.devRef .tc main_v16) = broadcastInDim S48x1 ![0] bcast_S48_S48x1_0 (m ((c : Thread nD τ).loc main_arg8) : S48.Idx → EReal) := by
  unfold W1; after_reads_simp

/-! ## What the second kernel finds, at an index -/

theorem v3_q (b : Fin 3) (h : Fin 48) (d : Fin 64) (T : Fin 640) : V3 m ρ c main_v0 (ix4 b h d T) = (kArgs c m).q b T h d :=
  (congrFun ((W3_of m ρ c main_v0 (by decide)).trans ((W2_of m ρ c main_v0 (by decide +kernel)).trans (w1_v0 c m ρ))) _).trans (tok_at _ b h d T)
theorem v3_k (b : Fin 3) (h : Fin 48) (d : Fin 64) (T : Fin 640) : V3 m ρ c main_v1 (ix4 b h d T) = (kArgs c m).k b T h d :=
  (congrFun ((W3_of m ρ c main_v1 (by decide)).trans ((W2_of m ρ c main_v1 (by decide +kernel)).trans (w1_v1 c m ρ))) _).trans (tok_at _ b h d T)
theorem v3_v (b : Fin 3) (h : Fin 48) (d : Fin 64) (T : Fin 640) : V3 m ρ c main_v2 (ix4 b h d T) = (kArgs c m).v b T h d :=
  (congrFun ((W3_of m ρ c main_v2 (by decide)).trans ((W2_of m ρ c main_v2 (by decide +kernel)).trans (w1_v2 c m ρ))) _).trans (tok_at _ b h d T)
theorem v3_qs (b : Fin 3) (h : Fin 48) (T : Fin 640) : V3 m ρ c main_v6 (ix4 b h 0 T) = (kArgs c m).qs b (Spec.chunk T) h :=
  (congrFun ((W3_of m ρ c main_v6 (by decide)).trans ((W2_of m ρ c main_v6 (by decide +kernel)).trans (w1_v6 c m ρ))) _).trans (scale_at _ b h T)
theorem v3_ks (b : Fin 3) (h : Fin 48) (T : Fin 640) : V3 m ρ c main_v10 (ix4 b h 0 T) = (kArgs c m).ks b (Spec.chunk T) h :=
  (congrFun ((W3_of m ρ c main_v10 (by decide)).trans ((W2_of m ρ c main_v10 (by decide +kernel)).trans (w1_v10 c m ρ))) _).trans (scale_at _ b h T)
theorem v3_vs (b : Fin 3) (h : Fin 48) (T : Fin 640) : V3 m ρ c main_v14 (ix4 b h 0 T) = (kArgs c m).vs b (Spec.chunk T) h :=
  (congrFun ((W3_of m ρ c main_v14 (by decide)).trans ((W2_of m ρ c main_v14 (by decide +kernel)).trans (w1_v14 c m ρ))) _).trans (scale_at _ b h T)

theorem w2_lr : W2 m ρ c (Proc.devRef .tc main_v17) = lrArr (V1 m ρ c main_v15) (V1 m ρ c main_v16) (V1 m ρ c main_arg6) :=
  (W2_arr m ρ c 3).trans (arr_lr (V1 m ρ) c)
theorem lrArr_args (w : S48x3072.Idx → EReal) (bl : S48x1.Idx → EReal) (x : S3x640x3072.Idx → EReal) (A : Spec.Args) (b : Fin 3) (h : Fin 48) (T : Fin 640)
    (hw : ∀ d, w (ix2 h d) = A.w d h) (hb : bl (ix2 h 0) = A.b h) (hx : ∀ d, x (ix3 b T d) = A.x b T d) : lrArr w bl x (ix3 b h T) = A.lr b T h := by
  have e : lrArr w bl x (ix3 b h T) = Spec.rate ((∑ d, w (ix2 h d) * x (ix3 b T d)) + bl (ix2 h 0)) := rfl
  rw [e]
  unfold Spec.Args.lr
  simp only [hw, hb, hx]
  exact congrArg (fun u => Spec.rate (u + A.b h)) (Finset.sum_congr rfl fun d _ => mul_comm _ _)
theorem lr_at (b : Fin 3) (h : Fin 48) (T : Fin 640) :
    lrArr (V1 m ρ c main_v15) (V1 m ρ c main_v16) (V1 m ρ c main_arg6) (ix3 b h T) = (kArgs c m).lr b T h :=
  lrArr_args _ _ _ _ b h T (fun d => (congrFun (w1_v15 c m ρ) _).trans (wt_at _ h d)) ((congrFun (w1_v16 c m ρ) _).trans (bl_at _ h))
    (fun d => congrFun (W1_args m ρ c main_arg6 (by decide)) _)
theorem w3_v18 : W3 m ρ c (Proc.devRef .tc main_v18) = broadcastInDim S3x48x1x640 ![0, 1, 3] bcast_S3x48x640_S3x48x1x640_0_1_3 (W2 m ρ c (Proc.devRef .tc main_v17) : S3x48x640.Idx → EReal) := by
  unfold W3; after_reads_simp
theorem v3_lr (b : Fin 3) (h : Fin 48) (T : Fin 640) : V3 m ρ c main_v18 (ix4 b h 0 T) = (kArgs c m).lr b T h :=
  (congrFun (w3_v18 c m ρ) _).trans ((row_at _ b h T).trans ((congrFun (w2_lr c m ρ) _).trans (lr_at c m ρ b h T)))
theorem v3_w0 (h : Fin 48) (d e : Fin 64) : V3 m ρ c main_arg9 (ix3 h d e) = (kArgs c m).w0 h d e :=
  congrFun (W3_args m ρ c main_arg9 (by decide)) _
theorem w3_v19 : W3 m ρ c (Proc.devRef .tc main_v19) = broadcastInDim S48x64x1 ![0, 1] bcast_S48x64_S48x64x1_0_1 (W2 m ρ c (Proc.devRef .tc main_arg10) : S48x64.Idx → EReal) := by
  unfold W3; after_reads_simp
theorem v3_b0 (h : Fin 48) (e : Fin 64) : V3 m ρ c main_v19 (ix3 h e 0) = (kArgs c m).b0 h e :=
  (congrFun (w3_v19 c m ρ) _).trans ((col_at _ h e).trans (congrFun (W2_args m ρ c main_arg10 (by decide)) _))
theorem w3_v20 : W3 m ρ c (Proc.devRef .tc main_v20) = broadcastInDim S48x64x1 ![0, 1] bcast_S48x64_S48x64x1_0_1 (W2 m ρ c (Proc.devRef .tc main_arg11) : S48x64.Idx → EReal) := by
  unfold W3; after_reads_simp
theorem v3_gm (h : Fin 48) (e : Fin 64) : V3 m ρ c main_v20 (ix3 h e 0) = (kArgs c m).gm h e :=
  (congrFun (w3_v20 c m ρ) _).trans ((col_at _ h e).trans (congrFun (W2_args m ρ c main_arg11 (by decide)) _))
theorem w3_v21 : W3 m ρ c (Proc.devRef .tc main_v21) = broadcastInDim S48x64x1 ![0, 1] bcast_S48x64_S48x64x1_0_1 (W2 m ρ c (Proc.devRef .tc main_arg12) : S48x64.Idx → EReal) := by
  unfold W3; after_reads_simp
theorem v3_bt (h : Fin 48) (e : Fin 64) : V3 m ρ c main_v21 (ix3 h e 0) = (kArgs c m).bt h e :=
  (congrFun (w3_v21 c m ρ) _).trans ((col_at _ h e).trans (congrFun (W2_args m ρ c main_arg12 (by decide)) _))

theorem arrCh_args (q k v : S3x48x64x640.Idx → EReal) (qs ks vs lr : S3x48x1x640.Idx → EReal) (A : Spec.Args) (b : Fin 3) (h : Fin 48)
    (hq : ∀ d T, q (ix4 b h d T) = A.q b T h d) (hk : ∀ d T, k (ix4 b h d T) = A.k b T h d) (hv : ∀ d T, v (ix4 b h d T) = A.v b T h d)
    (hqs : ∀ T, qs (ix4 b h 0 T) = A.qs b (Spec.chunk T) h) (hks : ∀ T, ks (ix4 b h 0 T) = A.ks b (Spec.chunk T) h)
    (hvs : ∀ T, vs (ix4 b h 0 T) = A.vs b (Spec.chunk T) h) (hlr : ∀ T, lr (ix4 b h 0 T) = A.lr b T h) :
    arrCh q k v qs ks vs lr b h = A.ch b h := by
  funext n
  unfold arrCh Spec.Args.ch
  simp only [hq, hk, hv, hqs, hks, hvs, hlr]
  rfl
theorem vCh_eq (b : Fin 3) (h : Fin 48) : vCh (V3 m ρ) c b h = (kArgs c m).ch b h :=
  arrCh_args _ _ _ _ _ _ _ _ b h (v3_q c m ρ b h) (v3_k c m ρ b h) (v3_v c m ρ b h) (v3_qs c m ρ b h) (v3_ks c m ρ b h) (v3_vs c m ρ b h) (v3_lr c m ρ b h)
theorem vG_eq (h : Fin 48) : vG (V3 m ρ) c h = (kArgs c m).gm h := funext fun e => v3_gm c m ρ h e
theorem vB_eq (h : Fin 48) : vB (V3 m ρ) c h = (kArgs c m).bt h := funext fun e => v3_bt c m ρ h e
theorem vW0_eq (h : Fin 48) : vW0 (V3 m ρ) c h = (kArgs c m).w0 h := funext fun d => funext fun e => v3_w0 c m ρ h d e
theorem vB0_eq (h : Fin 48) : vB0 (V3 m ρ) c h = (kArgs c m).b0 h := funext fun e => v3_b0 c m ρ h e

/-! ## The four results -/

theorem res_w (b : Fin 3) (h : Fin 48) (d e : Fin 64) :
    W5 m ρ c (Proc.devRef .tc main_v22_2) (ix4 b h d e) = ((kArgs c m).st b h 40).1 d e := by
  refine (congrFun ((W5_of m ρ c main_v22_2 (by decide)).trans ((W4_arr m ρ c 13).trans (arr_w (V3 m ρ) c))) (ix4 b h d e)).trans ?_
  refine Eq.trans (b := (Spec.st (vG (V3 m ρ) c h) (vB (V3 m ρ) c h) (vCh (V3 m ρ) c b h) (vW0 (V3 m ρ) c h) (vB0 (V3 m ρ) c h) 40).1 d e) rfl ?_
  rw [vG_eq, vB_eq, vCh_eq, vW0_eq, vB0_eq]
  rfl
theorem w5_b : W5 m ρ c (Proc.devRef .tc main_v25) = shapeCast S3x48x64 (W4 m ρ c (Proc.devRef .tc main_v22_3) : S3x48x64x1.Idx → EReal) shapeCasts_S3x48x64x1_S3x48x64 := by
  unfold W5; after_reads_simp; rfl
theorem res_b (b : Fin 3) (h : Fin 48) (e : Fin 64) :
    W5 m ρ c (Proc.devRef .tc main_v25) (ix3 b h e) = ((kArgs c m).st b h 40).2 e := by
  refine (congrFun (w5_b c m ρ) (ix3 b h e)).trans ((uncol_at _ b h e).trans ?_)
  refine (congrFun ((W4_arr m ρ c 14).trans (arr_b (V3 m ρ) c)) (ix4 b h e 0)).trans ?_
  refine Eq.trans (b := (Spec.st (vG (V3 m ρ) c h) (vB (V3 m ρ) c h) (vCh (V3 m ρ) c b h) (vW0 (V3 m ρ) c h) (vB0 (V3 m ρ) c h) 40).2 e) rfl ?_
  rw [vG_eq, vB_eq, vCh_eq, vW0_eq, vB0_eq]
  rfl
theorem w5_z : W5 m ρ c (Proc.devRef .tc main_v24) = transpose S3x640x48x64 [0, 3, 1, 2] (W4 m ρ c (Proc.devRef .tc main_v22_1) : S3x48x64x640.Idx → EReal) transposes_S3x48x64x640_S3x640x48x64_0_3_1_2 := by
  unfold W5; after_reads_simp
theorem res_z (b : Fin 3) (T : Fin 640) (h : Fin 48) (e : Fin 64) :
    W5 m ρ c (Proc.devRef .tc main_v24) (ix4 b T h e) = (kArgs c m).z b h T e := by
  refine (congrFun (w5_z c m ρ) (ix4 b T h e)).trans ((back_at _ b h e T).trans ?_)
  refine (congrFun ((W4_arr m ρ c 12).trans (arr_z (V3 m ρ) c)) (ix4 b h e T)).trans ?_
  refine Eq.trans (b := Spec.zAt (vG (V3 m ρ) c h) (vB (V3 m ρ) c h) (vCh (V3 m ρ) c b h) (vW0 (V3 m ρ) c h) (vB0 (V3 m ρ) c h) (T.val / 16) (Spec.place T) e) rfl ?_
  rw [vG_eq, vB_eq, vCh_eq, vW0_eq, vB0_eq]
  rfl
theorem w5_o : W5 m ρ c (Proc.devRef .tc main_v23) = transpose S3x640x48x64 [0, 3, 1, 2] (W4 m ρ c (Proc.devRef .tc main_v22_0) : S3x48x64x640.Idx → EReal) transposes_S3x48x64x640_S3x640x48x64_0_3_1_2 := by
  unfold W5; after_reads_simp
theorem res_o (b : Fin 3) (T : Fin 640) (h : Fin 48) (e : Fin 64) :
    W5 m ρ c (Proc.devRef .tc main_v23) (ix4 b T h e) = (kArgs c m).o b h T e := by
  refine (congrFun (w5_o c m ρ) (ix4 b T h e)).trans ((back_at _ b h e T).trans ?_)
  refine (congrFun ((W4_arr m ρ c 11).trans (arr_o (V3 m ρ) c)) (ix4 b h e T)).trans ?_
  refine Eq.trans (b := Spec.oAt (vG (V3 m ρ) c h) (vB (V3 m ρ) c h) (vCh (V3 m ρ) c b h) (vW0 (V3 m ρ) c h) (vB0 (V3 m ρ) c h) (T.val / 16) (Spec.place T) e) rfl ?_
  rw [vG_eq, vB_eq, vCh_eq, vW0_eq, vB0_eq]
  rfl

end Cert.KernelIdeal.Val
-- ==== Proof.KernelRun.lean ====
/- The kernel program's run with its values: every buffer ends at its contents after the last host stretch. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at its final contents. -/
theorem run_main : θ_run defs (onTc (τ := τ) (main (F := F))) ⟨m, fun _ => 0, ρ⟩
    (fun r => ∀ (c : Dev nD), ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.KernelIdeal.Val
-- ==== Proof.RefStep.lean ====
/- One trip of the reference's loop as tensor functions of the chunk's operands, the weights and the bias. -/
module

public import proofs.«01_k».proof.Proof.Gen.ReferenceIdeal.Frame
public import proofs.«01_k».proof.Proof.Spec
public import Idealize.ShloMosaic.Lib.StableHlo.RunRead
public import Idealize.ShloMosaic.Lib.Pipeline.Regions
public import Idealize.ShloMosaic.Lib.Pointwise

@[expose] public section

set_option maxRecDepth 16384

noncomputable section

namespace Cert.ReferenceIdeal.Val

open Idealize.ShloMosaic Idealize.ShloMosaic.TcCoe Idealize.SL Idealize.SL.Sem
open Cert.ReferenceIdeal.Gen

/-- The trip's tensors. -/
abbrev RT := FVec Ideal S3x16x48x64 .f32
abbrev RT1 := FVec Ideal S3x16x48x1 .f32
abbrev RTW := FVec Ideal S3x48x64x64 .f32
abbrev RTB := FVec Ideal S3x48x64 .f32
abbrev RTG := FVec Ideal S48x64 .f32
abbrev RTM := FVec Ideal S3x16x16x48 .f32
abbrev RTE := FVec Ideal S3x16x48 .f32

/-- A value per token and head, over the 64 entries. -/
def over (x : RT1) : RT := broadcastInDim S3x16x48x64 ![0, 1, 2, 3] bcast_S3x16x48x1_S3x16x48x64_0_1_2_3 x
def col (x : RTE) : RT1 := broadcastInDim S3x16x48x1 ![0, 1, 2] bcast_S3x16x48_S3x16x48x1_0_1_2 x
/-- The sum over the 64 entries, and the mean. -/
def rsum (x : RT) : RT1 := col (Host.reduceAdd x (constant S_ .f32 0x00000000#32) reducesTo_S3x16x48x64_S3x16x48_d3 h_S_)
def rmean (x : RT) : RT1 :=
  Host.divf (rsum x) (broadcastInDim S3x16x48x1 ![] bcast_S_S3x16x48x1 (constant S_ .f32 0x42800000#32))
def rcen (x : RT) : RT := subf x (over (rmean x))
def rstd (z : RT) : RT1 :=
  Host.sqrt (addf (rmean (mulf z z)) (broadcastInDim S3x16x48x1 ![] bcast_S_S3x16x48x1 (constant S_ .f32 0x358637BD#32)))
def rnrm (z : RT) : RT := Host.divf z (over (rstd z))
/-- A value per head and entry, over batches and tokens. -/
def perHead (g : RTG) : RT :=
  broadcastInDim S3x16x48x64 ![0, 1, 2, 3] bcast_S1x1x48x64_S3x16x48x64_0_1_2_3
    (broadcastInDim S1x1x48x64 ![2, 3] bcast_S48x64_S1x1x48x64_2_3 g)
/-- The linear model. -/
def rlin (W : RTW) (B : RTB) (x : RT) : RT :=
  addf (transpose S3x16x48x64 [0, 3, 1, 2]
      (Host.dotGeneral (F := Ideal) dot_S3x48x64x64_S3x16x48x64_S3x48x64x16_2_3_3_1_01_02 (some .fp32) W x : FVec Ideal S3x48x64x16 .f32)
      transposes_S3x48x64x16_S3x16x48x64_0_3_1_2)
    (broadcastInDim S3x16x48x64 ![0, 1, 2, 3] bcast_S3x1x48x64_S3x16x48x64_0_1_2_3
      (broadcastInDim S3x1x48x64 ![0, 2, 3] bcast_S3x48x64_S3x1x48x64_0_2_3 B))
/-- The gradient at the normalised output, and through the normalisation. -/
def rgout (g b : RTG) (t xh : RT) : RT := mulf (subf (addf (mulf (perHead g) xh) (perHead b)) t) (perHead g)
def rgz (sd : RT1) (xh go : RT) : RT :=
  Host.divf
    (subf (subf (mulf (broadcastInDim S3x16x48x64 ![] bcast_S_S3x16x48x64 (constant S_ .f32 0x42800000#32)) go) (over (rsum go)))
      (mulf xh (over (rsum (mulf go xh)))))
    (over (mulf (broadcastInDim S3x16x48x1 ![] bcast_S_S3x16x48x1 (constant S_ .f32 0x42800000#32)) sd))
def rgradOf (g b : RTG) (t zc : RT) : RT := rgz (rstd zc) (rnrm zc) (rgout g b t (rnrm zc))
def rgrad (g b : RTG) (W : RTW) (B : RTB) (k t : RT) : RT := rgradOf g b t (rcen (rlin W B k))
/-- The outputs before normalisation, the next weights and the next bias. -/
def rzbar (g b : RTG) (W : RTW) (B : RTB) (k t q : RT) (m : RTM) : RT :=
  subf (rlin W B q)
    (transpose S3x16x48x64 [0, 3, 1, 2]
      (Host.dotGeneral (F := Ideal) dot_S3x16x48x64_S3x16x16x48_S3x48x64x16_1_2_3_1_02_03 (some .fp32) (rgrad g b W B k t) m : FVec Ideal S3x48x64x16 .f32)
      transposes_S3x48x64x16_S3x16x48x64_0_3_1_2)
def rgend (g b : RTG) (W : RTW) (B : RTB) (k t : RT) (eta : RTE) : RT := mulf (rgrad g b W B k t) (over (col eta))
def rnextW (g b : RTG) (W : RTW) (B : RTB) (k t : RT) (eta : RTE) : RTW :=
  subf W (Host.dotGeneral (F := Ideal) dot_S3x16x48x64_S3x16x48x64_S3x48x64x64_1_1_3_3_02_02 (some .fp32) k (rgend g b W B k t eta))
def rnextB (g b : RTG) (W : RTW) (B : RTB) (k t : RT) (eta : RTE) : RTB :=
  subf B (Host.reduceAdd (rgend g b W B k t eta) (constant S_ .f32 0x00000000#32) reducesTo_S3x16x48x64_S3x48x64_d1 h_S_)

/-! ## Read at an index -/

/-- The 64 entries of a token and head; the weights, bias and per-head vectors of a head. -/
abbrev row (x : RT) (b : Fin 3) (h : Fin 48) (j : Fin 16) : Fin 64 → EReal := fun e => x (ix4 b j h e)
abbrev wOf (W : RTW) (b : Fin 3) (h : Fin 48) : Fin 64 → Fin 64 → EReal := fun d e => W (ix4 b h d e)
abbrev bOf (B : RTB) (b : Fin 3) (h : Fin 48) : Fin 64 → EReal := fun e => B (ix3 b h e)
abbrev gOf (g : RTG) (h : Fin 48) : Fin 64 → EReal := fun e => g (ix2 h e)

theorem over_at (x : RT1) (b : Fin 3) (j : Fin 16) (h : Fin 48) (e : Fin 64) : over x (ix4 b j h e) = x (ix4 b j h 0) := by
  unfold over; pointwise
theorem col_at (x : RTE) (b : Fin 3) (j : Fin 16) (h : Fin 48) (z : Fin 1) : col x (ix4 b j h z) = x (ix3 b j h) := by
  unfold col; pointwise
theorem rsum_at (x : RT) (b : Fin 3) (j : Fin 16) (h : Fin 48) (z : Fin 1) : rsum x (ix4 b j h z) = ∑ e, x (ix4 b j h e) := by
  unfold rsum; rw [col_at]; pointwise
theorem rmean_at (x : RT) (b : Fin 3) (j : Fin 16) (h : Fin 48) (z : Fin 1) : rmean x (ix4 b j h z) = Spec.mean (row x b h j) := by
  unfold rmean; pointwise; rw [rsum_at]; rfl
theorem rcen_at (x : RT) (b : Fin 3) (h : Fin 48) (j : Fin 16) : row (rcen x) b h j = Spec.cen (row x b h j) := by
  funext e; unfold rcen row; pointwise; rw [over_at, rmean_at]; rfl
theorem rstd_at (x : RT) (b : Fin 3) (h : Fin 48) (j : Fin 16) (z : Fin 1) : rstd x (ix4 b j h z) = Spec.std (row x b h j) := by
  unfold rstd; pointwise; rw [rmean_at]; rfl
theorem rnrm_at (x : RT) (b : Fin 3) (h : Fin 48) (j : Fin 16) : row (rnrm x) b h j = Spec.nrm (row x b h j) := by
  funext e; unfold rnrm row; pointwise; rw [over_at, rstd_at]; rfl
theorem perHead_at (g : RTG) (b : Fin 3) (j : Fin 16) (h : Fin 48) (e : Fin 64) : perHead g (ix4 b j h e) = g (ix2 h e) := by
  unfold perHead; pointwise
theorem rlin_at (W : RTW) (B : RTB) (x : RT) (b : Fin 3) (h : Fin 48) (j : Fin 16) :
    row (rlin W B x) b h j = Spec.lin (wOf W b h) (bOf B b h) (row x b h j) := by
  funext e; unfold rlin row; pointwise; unfold Spec.lin; simp only [mul_comm]
theorem rgout_at (g b' : RTG) (t xh : RT) (b : Fin 3) (h : Fin 48) (j : Fin 16) :
    row (rgout g b' t xh) b h j = Spec.gout (gOf g h) (gOf b' h) (row t b h j) (row xh b h j) := by
  funext e; unfold rgout row; pointwise; simp only [perHead_at]; rfl
theorem rgz_at (sd : RT1) (xh go : RT) (b : Fin 3) (h : Fin 48) (j : Fin 16) :
    row (rgz sd xh go) b h j = Spec.gz (sd (ix4 b j h 0)) (row xh b h j) (row go b h j) := by
  funext e; unfold rgz row; pointwise; simp only [over_at, rsum_at]; pointwise; rfl
theorem rgrad_at (g b' : RTG) (W : RTW) (B : RTB) (k t : RT) (b : Fin 3) (h : Fin 48) (j : Fin 16) (C : Spec.Ch)
    (hk : row k b h j = C.k j) (ht : row t b h j = C.t j) :
    row (rgrad g b' W B k t) b h j = Spec.grad (gOf g h) (gOf b' h) C (wOf W b h) (bOf B b h) j := by
  unfold rgrad rgradOf
  rw [rgz_at, rstd_at, rgout_at, rnrm_at, rcen_at, rlin_at, hk, ht]
  rfl

/-- The operands of a chunk hold the chunk's values for a batch and head. -/
structure Holds (k t q : RT) (m : RTM) (eta : RTE) (C : Spec.Ch) (b : Fin 3) (h : Fin 48) : Prop where
  k : ∀ j, row k b h j = C.k j
  t : ∀ j, row t b h j = C.t j
  q : ∀ j, row q b h j = C.q j
  m : ∀ i j, m (ix4 b i j h) = Spec.coef C i j
  eta : ∀ j, eta (ix3 b j h) = Ideal.div (C.lr j) Spec.c16

variable {k t q : RT} {m : RTM} {eta : RTE} {C : Spec.Ch} {b : Fin 3} {h : Fin 48} (H : Holds k t q m eta C b h)
  (g b' : RTG) (W : RTW) (B : RTB)
include H

theorem rzbar_at (i : Fin 16) : row (rzbar g b' W B k t q m) b h i = Spec.zbar (gOf g h) (gOf b' h) C (wOf W b h) (bOf B b h) i := by
  have hg : ∀ j e, rgrad g b' W B k t (ix4 b j h e) = Spec.grad (gOf g h) (gOf b' h) C (wOf W b h) (bOf B b h) j e :=
    fun j e => congrFun (rgrad_at g b' W B k t b h j C (H.k j) (H.t j)) e
  have hl : ∀ e, rlin W B q (ix4 b i h e) = Spec.lin (wOf W b h) (bOf B b h) (C.q i) e :=
    fun e => (congrFun (rlin_at W B q b h i) e).trans (by rw [H.q])
  funext e
  unfold rzbar row
  generalize rgrad g b' W B k t = G at hg ⊢
  generalize rlin W B q = L at hl ⊢
  pointwise
  rw [hl]
  simp only [hg, H.m]
  unfold Spec.zbar
  congr 1
  exact Finset.sum_congr rfl fun j _ => mul_comm _ _

theorem rgend_at (j : Fin 16) (e : Fin 64) :
    rgend g b' W B k t eta (ix4 b j h e) = Spec.gend (gOf g h) (gOf b' h) C (wOf W b h) (bOf B b h) j e := by
  have hg := congrFun (rgrad_at g b' W B k t b h j C (H.k j) (H.t j)) e
  unfold rgend
  generalize rgrad g b' W B k t = G at hg ⊢
  pointwise
  rw [over_at, col_at, H.eta]
  exact congrArg (· * _) hg

theorem rnextW_at : wOf (rnextW g b' W B k t eta) b h = Spec.nextW (gOf g h) (gOf b' h) C (wOf W b h) (bOf B b h) := by
  have hg := rgend_at H g b' W B
  have hk : ∀ j d, k (ix4 b j h d) = C.k j d := fun j d => congrFun (H.k j) d
  funext d e
  unfold rnextW wOf
  generalize rgend g b' W B k t eta = G at hg ⊢
  pointwise
  simp only [hg, hk]
  rfl

theorem rnextB_at : bOf (rnextB g b' W B k t eta) b h = Spec.nextB (gOf g h) (gOf b' h) C (wOf W b h) (bOf B b h) := by
  have hg := rgend_at H g b' W B
  funext e
  unfold rnextB bOf
  generalize rgend g b' W B k t eta = G at hg ⊢
  pointwise
  simp only [hg]
  rfl

end Cert.ReferenceIdeal.Val

end
-- ==== Proof.RefTrip.lean ====
/- The reference's loop body, read as the trip's tensor functions. -/
module

public import proofs.«01_k».proof.Proof.RefStep

@[expose] public section

set_option maxRecDepth 100000

noncomputable section

namespace Cert.ReferenceIdeal.Val

open Idealize.ShloMosaic Idealize.ShloMosaic.TcCoe Idealize.SL Idealize.SL.Sem
open Idealize.ShloMosaic.StableHlo
open Cert.ReferenceIdeal.Gen

variable (V : Valuation τ sig (Elt Ideal))

set_option maxHeartbeats 4000000 in
theorem body5_z : after while0Ops0_5 V (Proc.devRef .tc main_while0b_v154)
    = rzbar (V (Proc.devRef .tc main_v66_5)) (V (Proc.devRef .tc main_v66_6)) (V (Proc.devRef .tc main_v66_8)) (V (Proc.devRef .tc main_v66_9))
      (V (Proc.devRef .tc main_while0b_v96)) (V (Proc.devRef .tc main_while0b_v97)) (V (Proc.devRef .tc main_while0b_v95)) (V (Proc.devRef .tc main_while0b_v98)) := by
  after_results
  chain_rfl

set_option maxHeartbeats 4000000 in
theorem body5_w : after while0Ops0_5 V (Proc.devRef .tc main_while0b_v159)
    = rnextW (V (Proc.devRef .tc main_v66_5)) (V (Proc.devRef .tc main_v66_6)) (V (Proc.devRef .tc main_v66_8)) (V (Proc.devRef .tc main_v66_9))
      (V (Proc.devRef .tc main_while0b_v96)) (V (Proc.devRef .tc main_while0b_v97)) (V (Proc.devRef .tc main_while0b_v99)) := by
  after_results
  chain_rfl

set_option maxHeartbeats 4000000 in
theorem body5_b : after while0Ops0_5 V (Proc.devRef .tc main_while0b_v161)
    = rnextB (V (Proc.devRef .tc main_v66_5)) (V (Proc.devRef .tc main_v66_6)) (V (Proc.devRef .tc main_v66_8)) (V (Proc.devRef .tc main_v66_9))
      (V (Proc.devRef .tc main_while0b_v96)) (V (Proc.devRef .tc main_while0b_v97)) (V (Proc.devRef .tc main_while0b_v99)) := by
  after_results
  chain_rfl

end Cert.ReferenceIdeal.Val

end
-- ==== Proof.RefBody.lean ====
/- One trip of the reference's loop: the chunk's operands are slices at the counter, and the trip's results are the tensor
   functions of those slices. -/
module

public import proofs.«01_k».proof.Proof.RefTrip
public import proofs.«01_k».proof.Proof.SpecArgs

@[expose] public section

set_option maxRecDepth 100000

noncomputable section

namespace Cert.ReferenceIdeal.Val

open Idealize.ShloMosaic Idealize.ShloMosaic.TcCoe Idealize.SL Idealize.SL.Sem
open Idealize.ShloMosaic.StableHlo
open Cert.ReferenceIdeal.Gen

variable (V : Valuation τ sig (Elt Ideal))

/-! ## Slices at the counter -/

abbrev RS := FVec Ideal S40x3x16x48x64 .f32

/-- The starts of a slice: the counter, then zeros. -/
def start5 (n : IVec S_ 32) : Fin 5 → Int :=
  fun k => ((![n, constantI S_ 32 0#32, constantI S_ 32 0#32, constantI S_ 32 0#32, constantI S_ 32 0#32] : Fin 5 → IVec S_ 32) k (Shape.Idx.first h_S_)).toInt
def start4 (n : IVec S_ 32) : Fin 4 → Int :=
  fun k => ((![n, constantI S_ 32 0#32, constantI S_ 32 0#32, constantI S_ 32 0#32] : Fin 4 → IVec S_ 32) k (Shape.Idx.first h_S_)).toInt
/-- A chunk of the queries, keys or targets; of the score weights; of the chunk-end rates. -/
def slT (x : RS) (n : IVec S_ 32) : RT :=
  shapeCast S3x16x48x64 (Host.dynamicSlice S1x3x16x48x64 x (start5 n) sliceFits_S40x3x16x48x64_S1x3x16x48x64) shapeCasts_S1x3x16x48x64_S3x16x48x64
def slM (x : FVec Ideal S40x3x16x16x48 .f32) (n : IVec S_ 32) : RTM :=
  shapeCast S3x16x16x48 (Host.dynamicSlice S1x3x16x16x48 x (start5 n) sliceFits_S40x3x16x16x48_S1x3x16x16x48) shapeCasts_S1x3x16x16x48_S3x16x16x48
def slE (x : FVec Ideal S40x3x16x48 .f32) (n : IVec S_ 32) : RTE :=
  shapeCast S3x16x48 (Host.dynamicSlice S1x3x16x48 x (start4 n) sliceFits_S40x3x16x48_S1x3x16x48) shapeCasts_S1x3x16x48_S3x16x48
/-- A chunk's outputs put into the stack. -/
def putZ (x : RS) (z : RT) (n : IVec S_ 32) : RS :=
  Host.dynamicUpdateSlice x (broadcastInDim S1x3x16x48x64 ![1, 2, 3, 4] bcast_S3x16x48x64_S1x3x16x48x64_1_2_3_4 z) (start5 n)
    updateFits_S40x3x16x48x64_S1x3x16x48x64

theorem iv_toInt (k : Fin 40) : (Scf.iv 0#32 1#32 k.val).toInt = k.val := by revert k; decide +kernel
theorem start5_iv {n : IVec S_ 32} {k : Fin 40} (hn : n = fun _ => Scf.iv 0#32 1#32 k.val) : start5 n = ![(k.val : ℤ), 0, 0, 0, 0] := by
  subst hn
  funext a
  fin_cases a
  · exact iv_toInt k
  all_goals rfl
theorem start4_iv {n : IVec S_ 32} {k : Fin 40} (hn : n = fun _ => Scf.iv 0#32 1#32 k.val) : start4 n = ![(k.val : ℤ), 0, 0, 0] := by
  subst hn
  funext a
  fin_cases a
  · exact iv_toInt k
  all_goals rfl

section
variable {n : IVec S_ 32} {k : Fin 40} (hn : n = fun _ => Scf.iv 0#32 1#32 k.val)
include hn

theorem slT_at (x : RS) (b : Fin 3) (j : Fin 16) (h : Fin 48) (e : Fin 64) : slT x n (ix4 b j h e) = x (ix5 k b j h e) := by
  unfold slT
  rw [start5_iv hn]
  pointwise
  congr 1
  congr 1
  all_goals (apply Fin.ext; simp [Host.clampedStart])
  all_goals omega
theorem slM_at (x : FVec Ideal S40x3x16x16x48 .f32) (b : Fin 3) (i j : Fin 16) (h : Fin 48) : slM x n (ix4 b i j h) = x (ix5 k b i j h) := by
  unfold slM
  rw [start5_iv hn]
  pointwise
  congr 1
  congr 1
  all_goals (apply Fin.ext; simp [Host.clampedStart])
  all_goals omega
theorem slE_at (x : FVec Ideal S40x3x16x48 .f32) (b : Fin 3) (j : Fin 16) (h : Fin 48) : slE x n (ix3 b j h) = x (ix4 k b j h) := by
  unfold slE
  rw [start4_iv hn]
  pointwise
  congr 1
  congr 1
  all_goals (apply Fin.ext; simp [Host.clampedStart])
  all_goals omega
theorem putZ_at (x : RS) (z : RT) (m : Fin 40) (b : Fin 3) (j : Fin 16) (h : Fin 48) (e : Fin 64) :
    putZ x z n (ix5 m b j h e) = if m = k then z (ix4 b j h e) else x (ix5 m b j h e) := by
  unfold putZ
  rw [start5_iv hn, Host.dynamicUpdateSlice_eq_updateSlice _ _ _ _ ![k.val, 0, 0, 0, 0]
    (by intro a; fin_cases a <;> simp <;> omega) (by refine ⟨rfl, fun a => ?_⟩; have := k.isLt; fin_cases a <;> simp <;> omega)]
  unfold updateSlice
  by_cases hm : m = k
  · subst hm
    rw [if_pos rfl, dif_pos (by intro a; fin_cases a <;> simp)]
    pointwise
  · rw [if_neg hm, dif_neg]
    intro hin
    have := hin 0
    apply hm; apply Fin.ext
    simp at this
    omega
end

/-! ## The body's stretches -/

theorem body0 : after while0Ops0 V (Proc.devRef .tc main_while0b_v95) = slT (V (Proc.devRef .tc main_v66_0)) (V (Proc.devRef .tc main_v66_7)) := by
  after_reads_simp
  refine congrArg (fun s => shapeCast S3x16x48x64 (Host.dynamicSlice S1x3x16x48x64 (V (Proc.devRef .tc main_v66_0) : FVec Ideal S40x3x16x48x64 .f32) s
    sliceFits_S40x3x16x48x64_S1x3x16x48x64) shapeCasts_S1x3x16x48x64_S3x16x48x64) (funext fun k => ?_)
  fin_cases k <;> rfl

theorem body0_1 : after while0Ops0_1 V (Proc.devRef .tc main_while0b_v96) = slT (V (Proc.devRef .tc main_v66_1)) (V (Proc.devRef .tc main_v66_7)) := by
  after_reads_simp
  refine congrArg (fun s => shapeCast S3x16x48x64 (Host.dynamicSlice S1x3x16x48x64 (V (Proc.devRef .tc main_v66_1) : FVec Ideal S40x3x16x48x64 .f32) s
    sliceFits_S40x3x16x48x64_S1x3x16x48x64) shapeCasts_S1x3x16x48x64_S3x16x48x64) (funext fun k => ?_)
  fin_cases k <;> rfl

theorem body0_2 : after while0Ops0_2 V (Proc.devRef .tc main_while0b_v97) = slT (V (Proc.devRef .tc main_v66_2)) (V (Proc.devRef .tc main_v66_7)) := by
  after_reads_simp
  refine congrArg (fun s => shapeCast S3x16x48x64 (Host.dynamicSlice S1x3x16x48x64 (V (Proc.devRef .tc main_v66_2) : FVec Ideal S40x3x16x48x64 .f32) s
    sliceFits_S40x3x16x48x64_S1x3x16x48x64) shapeCasts_S1x3x16x48x64_S3x16x48x64) (funext fun k => ?_)
  fin_cases k <;> rfl

theorem body0_3 : after while0Ops0_3 V (Proc.devRef .tc main_while0b_v98) = slM (V (Proc.devRef .tc main_v66_3)) (V (Proc.devRef .tc main_v66_7)) := by
  after_reads_simp
  refine congrArg (fun s => shapeCast S3x16x16x48 (Host.dynamicSlice S1x3x16x16x48 (V (Proc.devRef .tc main_v66_3) : FVec Ideal S40x3x16x16x48 .f32) s
    sliceFits_S40x3x16x16x48_S1x3x16x16x48) shapeCasts_S1x3x16x16x48_S3x16x16x48) (funext fun k => ?_)
  fin_cases k <;> rfl

theorem body0_4 : after while0Ops0_4 V (Proc.devRef .tc main_while0b_v99) = slE (V (Proc.devRef .tc main_v66_4)) (V (Proc.devRef .tc main_v66_7)) := by
  after_reads_simp
  refine congrArg (fun s => shapeCast S3x16x48 (Host.dynamicSlice S1x3x16x48 (V (Proc.devRef .tc main_v66_4) : FVec Ideal S40x3x16x48 .f32) s
    sliceFits_S40x3x16x48_S1x3x16x48) shapeCasts_S1x3x16x48_S3x16x48) (funext fun k => ?_)
  fin_cases k <;> rfl

theorem body0_6 : after while0Ops0_6 V (Proc.devRef .tc main_while0b_v162)
    = putZ (V (Proc.devRef .tc main_v66_10)) (V (Proc.devRef .tc main_while0b_v154)) (V (Proc.devRef .tc main_v66_7)) := by
  after_reads_simp
  refine congrArg (fun s => Host.dynamicUpdateSlice (V (Proc.devRef .tc main_v66_10) : RS)
    (broadcastInDim S1x3x16x48x64 ![1, 2, 3, 4] bcast_S3x16x48x64_S1x3x16x48x64_1_2_3_4 (V (Proc.devRef .tc main_while0b_v154) : RT)) s
    updateFits_S40x3x16x48x64_S1x3x16x48x64) (funext fun k => ?_)
  fin_cases k <;> rfl

theorem body0_7_w : after while0Ops0_7 V (Proc.devRef .tc main_v66_8) = V (Proc.devRef .tc main_while0b_v159) := by
  after_results; rfl
theorem body0_7_b : after while0Ops0_7 V (Proc.devRef .tc main_v66_9) = V (Proc.devRef .tc main_while0b_v161) := by
  after_results; rfl
theorem body0_7_z : after while0Ops0_7 V (Proc.devRef .tc main_v66_10) = V (Proc.devRef .tc main_while0b_v162) := by
  after_results; rfl

theorem keep0 (r : Ref sig .tc) (h : r ∉ while0Ops0_W) : after while0Ops0 V (Proc.devRef .tc r) = V (Proc.devRef .tc r) :=
  after_of_writes_sub while0Ops0 V while0Ops0_writes h
theorem keep0_1 (r : Ref sig .tc) (h : r ∉ while0Ops0_1_W) : after while0Ops0_1 V (Proc.devRef .tc r) = V (Proc.devRef .tc r) :=
  after_of_writes_sub while0Ops0_1 V while0Ops0_1_writes h
theorem keep0_2 (r : Ref sig .tc) (h : r ∉ while0Ops0_2_W) : after while0Ops0_2 V (Proc.devRef .tc r) = V (Proc.devRef .tc r) :=
  after_of_writes_sub while0Ops0_2 V while0Ops0_2_writes h
theorem keep0_3 (r : Ref sig .tc) (h : r ∉ while0Ops0_3_W) : after while0Ops0_3 V (Proc.devRef .tc r) = V (Proc.devRef .tc r) :=
  after_of_writes_sub while0Ops0_3 V while0Ops0_3_writes h
theorem keep0_4 (r : Ref sig .tc) (h : r ∉ while0Ops0_4_W) : after while0Ops0_4 V (Proc.devRef .tc r) = V (Proc.devRef .tc r) :=
  after_of_writes_sub while0Ops0_4 V while0Ops0_4_writes h
theorem keep0_5 (r : Ref sig .tc) (h : r ∉ while0Ops0_5_W) : after while0Ops0_5 V (Proc.devRef .tc r) = V (Proc.devRef .tc r) :=
  after_of_writes_sub while0Ops0_5 V while0Ops0_5_writes h
theorem keep0_6 (r : Ref sig .tc) (h : r ∉ while0Ops0_6_W) : after while0Ops0_6 V (Proc.devRef .tc r) = V (Proc.devRef .tc r) :=
  after_of_writes_sub while0Ops0_6 V while0Ops0_6_writes h
theorem keep0_7 (r : Ref sig .tc) (h : r ∉ while0Ops0_7_W) : after while0Ops0_7 V (Proc.devRef .tc r) = V (Proc.devRef .tc r) :=
  after_of_writes_sub while0Ops0_7 V while0Ops0_7_writes h
theorem keepC (r : Ref sig .tc) (h : r ∉ condOps_W) : after condOps V (Proc.devRef .tc r) = V (Proc.devRef .tc r) :=
  after_of_writes_sub condOps V condOps_writes h

/-- The chunk's operands at the counter. -/
abbrev qS : RT := slT (V (Proc.devRef .tc main_v66_0)) (V (Proc.devRef .tc main_v66_7))
abbrev kS : RT := slT (V (Proc.devRef .tc main_v66_1)) (V (Proc.devRef .tc main_v66_7))
abbrev tS : RT := slT (V (Proc.devRef .tc main_v66_2)) (V (Proc.devRef .tc main_v66_7))
abbrev mS : RTM := slM (V (Proc.devRef .tc main_v66_3)) (V (Proc.devRef .tc main_v66_7))
abbrev eS : RTE := slE (V (Proc.devRef .tc main_v66_4)) (V (Proc.devRef .tc main_v66_7))
abbrev gS : RTG := V (Proc.devRef .tc main_v66_5)
abbrev btS : RTG := V (Proc.devRef .tc main_v66_6)
abbrev wS : RTW := V (Proc.devRef .tc main_v66_8)
abbrev bS : RTB := V (Proc.devRef .tc main_v66_9)
abbrev zS : RS := V (Proc.devRef .tc main_v66_10)

/-- The trip: what the condition and the body leave. -/
abbrev trip : Valuation τ sig (Elt Ideal) := afterL bodyI (after condOps V)

/-- The condition and the five slices. -/
abbrev pre : Valuation τ sig (Elt Ideal) :=
  after while0Ops0_4 (after while0Ops0_3 (after while0Ops0_2 (after while0Ops0_1 (after while0Ops0 (after condOps V)))))
abbrev preW : List (Ref sig .tc) :=
  condOps_W ++ while0Ops0_W ++ while0Ops0_1_W ++ while0Ops0_2_W ++ while0Ops0_3_W ++ while0Ops0_4_W
theorem pre_keep (r : Ref sig .tc) (h : r ∉ preW) : pre V (Proc.devRef .tc r) = V (Proc.devRef .tc r) := by
  simp only [preW, List.mem_append, not_or] at h
  obtain ⟨⟨⟨⟨⟨hC, h0⟩, h1⟩, h2⟩, h3⟩, h4⟩ := h
  unfold pre
  rw [keep0_4 _ _ h4, keep0_3 _ _ h3, keep0_2 _ _ h2, keep0_1 _ _ h1, keep0 _ _ h0, keepC _ _ hC]
theorem pre_qS : pre V (Proc.devRef .tc main_while0b_v95) = qS V := by
  unfold pre
  rw [keep0_4 _ main_while0b_v95 (by decide +kernel), keep0_3 _ main_while0b_v95 (by decide +kernel), keep0_2 _ main_while0b_v95 (by decide +kernel), keep0_1 _ main_while0b_v95 (by decide +kernel), body0, keepC _ main_v66_0 (by decide +kernel), keepC _ main_v66_7 (by decide +kernel)]
theorem pre_kS : pre V (Proc.devRef .tc main_while0b_v96) = kS V := by
  unfold pre
  rw [keep0_4 _ main_while0b_v96 (by decide +kernel), keep0_3 _ main_while0b_v96 (by decide +kernel), keep0_2 _ main_while0b_v96 (by decide +kernel), body0_1, keep0 _ main_v66_1 (by decide +kernel), keep0 _ main_v66_7 (by decide +kernel), keepC _ main_v66_1 (by decide +kernel), keepC _ main_v66_7 (by decide +kernel)]
theorem pre_tS : pre V (Proc.devRef .tc main_while0b_v97) = tS V := by
  unfold pre
  rw [keep0_4 _ main_while0b_v97 (by decide +kernel), keep0_3 _ main_while0b_v97 (by decide +kernel), body0_2, keep0_1 _ main_v66_2 (by decide +kernel), keep0_1 _ main_v66_7 (by decide +kernel), keep0 _ main_v66_2 (by decide +kernel), keep0 _ main_v66_7 (by decide +kernel), keepC _ main_v66_2 (by decide +kernel), keepC _ main_v66_7 (by decide +kernel)]
theorem pre_mS : pre V (Proc.devRef .tc main_while0b_v98) = mS V := by
  unfold pre
  rw [keep0_4 _ main_while0b_v98 (by decide +kernel), body0_3, keep0_2 _ main_v66_3 (by decide +kernel), keep0_2 _ main_v66_7 (by decide +kernel), keep0_1 _ main_v66_3 (by decide +kernel), keep0_1 _ main_v66_7 (by decide +kernel), keep0 _ main_v66_3 (by decide +kernel), keep0 _ main_v66_7 (by decide +kernel), keepC _ main_v66_3 (by decide +kernel), keepC _ main_v66_7 (by decide +kernel)]
theorem pre_eS : pre V (Proc.devRef .tc main_while0b_v99) = eS V := by
  unfold pre
  rw [body0_4, keep0_3 _ main_v66_4 (by decide +kernel), keep0_3 _ main_v66_7 (by decide +kernel), keep0_2 _ main_v66_4 (by decide +kernel), keep0_2 _ main_v66_7 (by decide +kernel), keep0_1 _ main_v66_4 (by decide +kernel), keep0_1 _ main_v66_7 (by decide +kernel), keep0 _ main_v66_4 (by decide +kernel), keep0 _ main_v66_7 (by decide +kernel), keepC _ main_v66_4 (by decide +kernel), keepC _ main_v66_7 (by decide +kernel)]
theorem trip_eq : trip V = after while0Ops0_7 (after while0Ops0_6 (after while0Ops0_5 (pre V))) := by
  unfold trip pre
  simp only [afterL_cons, afterL_nil]
theorem trip_w : trip V (Proc.devRef .tc main_v66_8) = rnextW (gS V) (btS V) (wS V) (bS V) (kS V) (tS V) (eS V) := by
  rw [trip_eq, body0_7_w, keep0_6 _ main_while0b_v159 (by decide +kernel), body5_w, pre_keep V main_v66_5 (by decide +kernel), pre_keep V main_v66_6 (by decide +kernel), pre_keep V main_v66_8 (by decide +kernel), pre_keep V main_v66_9 (by decide +kernel), pre_kS, pre_tS, pre_eS]
theorem trip_b : trip V (Proc.devRef .tc main_v66_9) = rnextB (gS V) (btS V) (wS V) (bS V) (kS V) (tS V) (eS V) := by
  rw [trip_eq, body0_7_b, keep0_6 _ main_while0b_v161 (by decide +kernel), body5_b, pre_keep V main_v66_5 (by decide +kernel), pre_keep V main_v66_6 (by decide +kernel), pre_keep V main_v66_8 (by decide +kernel), pre_keep V main_v66_9 (by decide +kernel), pre_kS, pre_tS, pre_eS]
theorem trip_z : trip V (Proc.devRef .tc main_v66_10) =
    putZ (zS V) (rzbar (gS V) (btS V) (wS V) (bS V) (kS V) (tS V) (qS V) (mS V)) (V (Proc.devRef .tc main_v66_7)) := by
  rw [trip_eq, body0_7_z, body0_6, keep0_5 _ main_v66_10 (by decide +kernel), keep0_5 _ main_v66_7 (by decide +kernel), body5_z, pre_keep V main_v66_5 (by decide +kernel), pre_keep V main_v66_6 (by decide +kernel), pre_keep V main_v66_8 (by decide +kernel), pre_keep V main_v66_9 (by decide +kernel), pre_kS, pre_tS, pre_qS, pre_mS, pre_keep V main_v66_10 (by decide +kernel), pre_keep V main_v66_7 (by decide +kernel)]

/-- Every buffer a trip writes. -/
abbrev tripW : List (Ref sig .tc) :=
  condOps_W ++ while0Ops0_W ++ while0Ops0_1_W ++ while0Ops0_2_W ++ while0Ops0_3_W ++ while0Ops0_4_W ++ while0Ops0_5_W ++ while0Ops0_6_W ++ while0Ops0_7_W

theorem trip_keep (r : Ref sig .tc) (h : r ∉ tripW) : trip V (Proc.devRef .tc r) = V (Proc.devRef .tc r) := by
  simp only [tripW, List.mem_append, not_or] at h
  obtain ⟨⟨⟨⟨⟨⟨⟨⟨hC, h0⟩, h1⟩, h2⟩, h3⟩, h4⟩, h5⟩, h6⟩, h7⟩ := h
  unfold trip
  simp only [afterL_cons, afterL_nil]
  rw [keep0_7 _ _ h7, keep0_6 _ _ h6, keep0_5 _ _ h5, keep0_4 _ _ h4, keep0_3 _ _ h3, keep0_2 _ _ h2, keep0_1 _ _ h1, keep0 _ _ h0, keepC _ _ hC]

end Cert.ReferenceIdeal.Val

end
-- ==== Proof.RefLoop.lean ====
/- The reference's forty trips: before trip `k` the loop's weights and bias are the recurrence's after `k` chunks, and the
   first `k` entries of the stack are the recurrence's outputs. -/
module

public import proofs.«01_k».proof.Proof.RefBody

@[expose] public section

set_option maxRecDepth 100000

noncomputable section

namespace Cert.ReferenceIdeal.Val

open Idealize.ShloMosaic Idealize.ShloMosaic.TcCoe Idealize.SL Idealize.SL.Sem
open Idealize.ShloMosaic.StableHlo
open Cert.ReferenceIdeal.Gen

variable (V : Valuation τ sig (Elt Ideal)) (A : Spec.Args)

/-- The loop's constants hold the arguments' chunks. -/
structure Const : Prop where
  q : ∀ (n : Fin 40) b j h e, (V (Proc.devRef .tc main_v66_0) : RS) (ix5 n b j h e) = (A.ch b h n).q j e
  k : ∀ (n : Fin 40) b j h e, (V (Proc.devRef .tc main_v66_1) : RS) (ix5 n b j h e) = (A.ch b h n).k j e
  t : ∀ (n : Fin 40) b j h e, (V (Proc.devRef .tc main_v66_2) : RS) (ix5 n b j h e) = (A.ch b h n).t j e
  m : ∀ (n : Fin 40) b i j h, (V (Proc.devRef .tc main_v66_3) : FVec Ideal S40x3x16x16x48 .f32) (ix5 n b i j h) = Spec.coef (A.ch b h n) i j
  eta : ∀ (n : Fin 40) b j h, (V (Proc.devRef .tc main_v66_4) : FVec Ideal S40x3x16x48 .f32) (ix4 n b j h) = Ideal.div ((A.ch b h n).lr j) Spec.c16
  g : ∀ h, gOf (gS V) h = A.gm h
  bt : ∀ h, gOf (btS V) h = A.bt h

/-- The state before trip `k`. -/
structure State (N : ℕ) : Prop extends Const V A where
  w : ∀ b h, wOf (wS V) b h = (A.st b h N).1
  b : ∀ b h, bOf (bS V) b h = (A.st b h N).2
  z : ∀ (n : Fin 40) b j h e, n.val < N → zS V (ix5 n b j h e) = Spec.zAt (A.gm h) (A.bt h) (A.ch b h) (A.w0 h) (A.b0 h) n j e

variable {V A}

theorem Const.trip (H : Const V A) : Const (trip V) A where
  q n b j h e := (congrFun (trip_keep V main_v66_0 (by decide +kernel)) _).trans (H.q n b j h e)
  k n b j h e := (congrFun (trip_keep V main_v66_1 (by decide +kernel)) _).trans (H.k n b j h e)
  t n b j h e := (congrFun (trip_keep V main_v66_2 (by decide +kernel)) _).trans (H.t n b j h e)
  m n b i j h := (congrFun (trip_keep V main_v66_3 (by decide +kernel)) _).trans (H.m n b i j h)
  eta n b j h := (congrFun (trip_keep V main_v66_4 (by decide +kernel)) _).trans (H.eta n b j h)
  g h := (congrArg (fun x : RTG => gOf x h) (trip_keep V main_v66_5 (by decide +kernel))).trans (H.g h)
  bt h := (congrArg (fun x : RTG => gOf x h) (trip_keep V main_v66_6 (by decide +kernel))).trans (H.bt h)

/-- The slices at the counter are the counter's chunk. -/
theorem Const.holds (H : Const V A) {k : Fin 40} (hn : (V (Proc.devRef .tc main_v66_7) : IVec S_ 32) = fun _ => Scf.iv 0#32 1#32 k.val)
    (b : Fin 3) (h : Fin 48) : Holds (kS V) (tS V) (qS V) (mS V) (eS V) (A.ch b h k) b h where
  k j := funext fun e => (slT_at hn _ b j h e).trans (H.k k b j h e)
  t j := funext fun e => (slT_at hn _ b j h e).trans (H.t k b j h e)
  q j := funext fun e => (slT_at hn _ b j h e).trans (H.q k b j h e)
  m i j := (slM_at hn _ b i j h).trans (H.m k b i j h)
  eta j := (slE_at hn _ b j h).trans (H.eta k b j h)

theorem State.trip {k : ℕ} (hk : k < 40) (H : State V A k) (hn : (V (Proc.devRef .tc main_v66_7) : IVec S_ 32) = fun _ => Scf.iv 0#32 1#32 k) :
    State (trip V) A (k + 1) where
  toConst := H.toConst.trip
  w b h := by
    have e := rnextW_at (H.toConst.holds (k := ⟨k, hk⟩) hn b h) (gS V) (btS V) (wS V) (bS V)
    rw [H.g, H.bt, H.w, H.b] at e
    exact (congrArg (fun x : RTW => wOf x b h) (trip_w V)).trans e
  b b h := by
    have e := rnextB_at (H.toConst.holds (k := ⟨k, hk⟩) hn b h) (gS V) (btS V) (wS V) (bS V)
    rw [H.g, H.bt, H.w, H.b] at e
    exact (congrArg (fun x : RTB => bOf x b h) (trip_b V)).trans e
  z n b j h e hlt := by
    refine (congrFun (trip_z V) (ix5 n b j h e)).trans ((putZ_at (k := ⟨k, hk⟩) hn _ _ n b j h e).trans ?_)
    split
    next hm =>
      subst hm
      have e' := rzbar_at (H.toConst.holds (k := ⟨k, hk⟩) hn b h) (gS V) (btS V) (wS V) (bS V) j
      rw [H.g, H.bt, H.w, H.b] at e'
      exact congrFun e' e
    next hm => exact H.z n b j h e (by have : n.val ≠ k := fun h => hm (Fin.ext h); omega)

variable (m : (ℓ : Loc nD τ sig) → Buf (Elt Ideal) ℓ) (ρ : Dev nD → PrngReg) (c : Dev nD)

/-- The state before every trip. -/
theorem state_at (H : State (Went m ρ c) A 0) : ∀ k, k ≤ 40 → State (Wk m ρ k c) A k
  | 0, _ => H
  | k + 1, hk => (state_at H k (by omega)).trip (by omega) (atK_ctr m ρ c k)

theorem wk_keep (r : Ref sig .tc) (h : r ∉ tripW) : ∀ k, Wk m ρ k c (Proc.devRef .tc r) = Went m ρ c (Proc.devRef .tc r)
  | 0 => rfl
  | k + 1 => (trip_keep (Wk m ρ k c) r h).trans (wk_keep r h k)

end Cert.ReferenceIdeal.Val

end
-- ==== Proof.RefCast.lean ====
/- The reference's one kernel: the codes read as they are. -/
module

public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.ReferenceIdeal.Val

open Idealize.ShloMosaic Idealize.ShloMosaic.TcCoe Idealize.SL Idealize.SL.Sem
open Cert.ReferenceIdeal.Gen

theorem idx0 : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0] :=
  (by decide +kernel : ∀ t : Fin grid0.N, _)

variable (V : (c : Dev nD) → (b : Ref sig .tc) → Buf (Elt Ideal) ((c : Thread nD τ).loc b)) (c : Dev nD)

abbrev Codes := S3x640x48x64.Idx → EReal

theorem blk0_0 (t : Fin cfg0.N) (b : Fin 3) (T : Fin 640) (h : Fin 48) (e : Fin 64) : iblk0 V c 0 t (ix4 b T h e) = V c main_arg0 (ix4 b T h e) := by
  blk_ext [iblk0, idx0 t]
theorem blk0_1 (t : Fin cfg0.N) (b : Fin 3) (T : Fin 640) (h : Fin 48) (e : Fin 64) : iblk0 V c 1 t (ix4 b T h e) = V c main_arg1 (ix4 b T h e) := by
  blk_ext [iblk0, idx0 t]
theorem blk0_2 (t : Fin cfg0.N) (b : Fin 3) (T : Fin 640) (h : Fin 48) (e : Fin 64) : iblk0 V c 2 t (ix4 b T h e) = V c main_arg2 (ix4 b T h e) := by
  blk_ext [iblk0, idx0 t]
theorem emb0_3 (t : Fin cfg0.N) (b : Fin 3) (T : Fin 640) (h : Fin 48) (e : Fin 64) : ((cfg0.win 3).blk t).view.emb (ix4 b T h e) = ix4 b T h e := by
  blk_ext [idx0 t]
theorem emb0_4 (t : Fin cfg0.N) (b : Fin 3) (T : Fin 640) (h : Fin 48) (e : Fin 64) : ((cfg0.win 4).blk t).view.emb (ix4 b T h e) = ix4 b T h e := by
  blk_ext [idx0 t]
theorem emb0_5 (t : Fin cfg0.N) (b : Fin 3) (T : Fin 640) (h : Fin 48) (e : Fin 64) : ((cfg0.win 5).blk t).view.emb (ix4 b T h e) = ix4 b T h e := by
  blk_ext [idx0 t]

theorem zero4 : (![0, 0, 0, 0] : Fin 4 → ℕ) = fun _ => 0 := by funext a; fin_cases a <;> rfl

theorem out_q (x0 x1 x2 : Vec Ideal S3x640x48x64 .fp8e4m3) : (out0_3 (F := Ideal) x0 x1 x2 : Codes) = x0 := by
  unfold out0_3
  exact (View.canon_unit_zero zero4 _ _).trans (show (View.ld x0 r0_0 : Codes) = x0 from View.ld_unit_zero zero4 _ _)
theorem out_k (x0 x1 x2 : Vec Ideal S3x640x48x64 .fp8e4m3) : (out0_4 (F := Ideal) x0 x1 x2 : Codes) = x1 := by
  unfold out0_4
  exact (View.canon_unit_zero zero4 _ _).trans (show (View.ld x1 r0_0 : Codes) = x1 from View.ld_unit_zero zero4 _ _)
theorem out_v (x0 x1 x2 : Vec Ideal S3x640x48x64 .fp8e4m3) : (out0_5 (F := Ideal) x0 x1 x2 : Codes) = x2 := by
  unfold out0_5
  exact (View.canon_unit_zero zero4 _ _).trans (show (View.ld x2 r0_0 : Codes) = x2 from View.ld_unit_zero zero4 _ _)

theorem arr_q : ((dat0 V c).arrAt 3 cfg0.N : Codes) = (V c main_arg0 : Codes) := by
  refine (dat0 V c).arrAt_eq_of_covers 3 (V c main_arg0 : Codes) (by decide +kernel) fun t _ y => ?_
  refine (Pipeline.Dat.flushed_apply _ _ _ _).trans ?_
  idx_vars y
  refine Eq.trans ?_ (congrArg (V c main_arg0 : Codes) (emb0_3 t y0 y1 y2 y3).symm)
  exact (congrFun ((after0_3 V c t).trans (out_q _ _ _)) (ix4 y0 y1 y2 y3)).trans (blk0_0 V c t y0 y1 y2 y3)
theorem arr_k : ((dat0 V c).arrAt 4 cfg0.N : Codes) = (V c main_arg1 : Codes) := by
  refine (dat0 V c).arrAt_eq_of_covers 4 (V c main_arg1 : Codes) (by decide +kernel) fun t _ y => ?_
  refine (Pipeline.Dat.flushed_apply _ _ _ _).trans ?_
  idx_vars y
  refine Eq.trans ?_ (congrArg (V c main_arg1 : Codes) (emb0_4 t y0 y1 y2 y3).symm)
  exact (congrFun ((after0_4 V c t).trans (out_k _ _ _)) (ix4 y0 y1 y2 y3)).trans (blk0_1 V c t y0 y1 y2 y3)
theorem arr_v : ((dat0 V c).arrAt 5 cfg0.N : Codes) = (V c main_arg2 : Codes) := by
  refine (dat0 V c).arrAt_eq_of_covers 5 (V c main_arg2 : Codes) (by decide +kernel) fun t _ y => ?_
  refine (Pipeline.Dat.flushed_apply _ _ _ _).trans ?_
  idx_vars y
  refine Eq.trans ?_ (congrArg (V c main_arg2 : Codes) (emb0_5 t y0 y1 y2 y3).symm)
  exact (congrFun ((after0_5 V c t).trans (out_v _ _ _)) (ix4 y0 y1 y2 y3)).trans (blk0_2 V c t y0 y1 y2 y3)

variable (m : (ℓ : Loc nD τ sig) → Buf (Elt Ideal) ℓ) (ρ : Dev nD → PrngReg)

theorem w2_q : (W2 m ρ c (Proc.devRef .tc main_v17_0) : Codes) = (m ((c : Thread nD τ).loc main_arg0) : Codes) :=
  (W2_arr m ρ c 3).trans ((arr_q (V1 m ρ) c).trans (W1_args m ρ c main_arg0 (by decide)))
theorem w2_k : (W2 m ρ c (Proc.devRef .tc main_v17_1) : Codes) = (m ((c : Thread nD τ).loc main_arg1) : Codes) :=
  (W2_arr m ρ c 4).trans ((arr_k (V1 m ρ) c).trans (W1_args m ρ c main_arg1 (by decide)))
theorem w2_v : (W2 m ρ c (Proc.devRef .tc main_v17_2) : Codes) = (m ((c : Thread nD τ).loc main_arg2) : Codes) :=
  (W2_arr m ρ c 5).trans ((arr_v (V1 m ρ) c).trans (W1_args m ρ c main_arg2 (by decide)))

end Cert.ReferenceIdeal.Val

end
-- ==== Proof.RefEntry.lean ====
/- What the reference's loop starts from: the chunks of the queries, keys, targets, score weights and rates, as `Spec`
   of the arguments. -/
module

public import proofs.«01_k».proof.Proof.RefLoop
public import proofs.«01_k».proof.Proof.RefCast

@[expose] public section

set_option maxRecDepth 100000

noncomputable section

namespace Cert.ReferenceIdeal.Val

open Idealize.ShloMosaic Idealize.ShloMosaic.TcCoe Idealize.SL Idealize.SL.Sem
open Idealize.ShloMosaic.StableHlo
open Cert.ReferenceIdeal.Gen

abbrev RC := FVec Ideal S40x3x16x48 .f32
abbrev RMs := FVec Ideal S40x3x16x16x48 .f32
abbrev RScale := FVec Ideal S3x40x48 .f32

/-! ## As tensor functions -/

/-- The tokens by chunk; a scale by chunk; the codes times their scale. -/
def byChunk (x : FVec Ideal S3x640x48x64 .f32) : RS :=
  transpose S40x3x16x48x64 [1, 0, 2, 3, 4] (shapeCast S3x40x16x48x64 x shapeCasts_S3x640x48x64_S3x40x16x48x64) transposes_S3x40x16x48x64_S40x3x16x48x64_1_0_2_3_4
def scaleT (s : RScale) : FVec Ideal S40x3x48 .f32 := transpose S40x3x48 [1, 0, 2] s transposes_S3x40x48_S40x3x48_1_0_2
def scaled (x : FVec Ideal S3x640x48x64 .f32) (s : RScale) : RS :=
  mulf (byChunk x) (broadcastInDim S40x3x16x48x64 ![0, 1, 2, 3, 4] bcast_S40x3x1x48x1_S40x3x16x48x64_0_1_2_3_4
    (broadcastInDim S40x3x1x48x1 ![0, 1, 3] bcast_S40x3x48_S40x3x1x48x1_0_1_3 (scaleT s)))
/-- The scaled scores. -/
def scores (q k : FVec Ideal S3x640x48x64 .f32) (qs ks : RScale) : RMs :=
  mulf (transpose S40x3x16x16x48 [0, 1, 4, 3, 2]
      (Host.dotGeneral (F := Ideal) dot_S40x3x16x48x64_S40x3x16x48x64_S40x3x48x16x16_4_4_2_2_013_013 none (byChunk k) (byChunk q) : FVec Ideal S40x3x48x16x16 .f32)
      transposes_S40x3x48x16x16_S40x3x16x16x48_0_1_4_3_2)
    (broadcastInDim S40x3x16x16x48 ![0, 1, 2, 3, 4] bcast_S40x3x1x1x48_S40x3x16x16x48_0_1_2_3_4
      (broadcastInDim S40x3x1x1x48 ![0, 1, 4] bcast_S40x3x48_S40x3x1x1x48_0_1_4 (mulf (scaleT qs) (scaleT ks))))
/-- The rate of a key's token over the number of keys the query sees. -/
def perQuery (lr : RC) : RMs :=
  Host.divf (broadcastInDim S40x3x16x16x48 ![0, 1, 2, 3, 4] bcast_S40x3x1x16x48_S40x3x16x16x48_0_1_2_3_4
      (broadcastInDim S40x3x1x16x48 ![0, 1, 3, 4] bcast_S40x3x16x48_S40x3x1x16x48_0_1_3_4 lr))
    (broadcastInDim S40x3x16x16x48 ![0, 1, 2, 3, 4] bcast_S1x1x16x1x1_S40x3x16x16x48_0_1_2_3_4
      (broadcastInDim S1x1x16x1x1 ![2, 3, 4] bcast_S16x1x1_S1x1x16x1x1_2_3_4
        (broadcastInDim S16x1x1 ![0] bcast_S16_S16x1x1_0
          (addf (broadcastInDim S16 ![] bcast_S_S16 (constant S_ .f32 0x3F800000#32 : FVec Ideal S_ .f32)) (sitofp .f32 (iotaInDim S16 32 0))))))
/-- The causal mask. -/
def ones : IVec S16x16 1 := broadcastInDim S16x16 ![] bcast_S_S16x16 (constantI S_ 1 1#1)
def causal (x : IVec S16x16 1) : IVec S16x16 1 :=
  select (cmpi .sge (addi (iotaInDim S16x16 32 0) (broadcastInDim S16x16 ![] bcast_S_S16x16 (constantI S_ 32 0#32))) (iotaInDim S16x16 32 1)) x
    (broadcastInDim S16x16 ![] bcast_S_S16x16 (constantI S_ 1 0#1))
def addOne (x : RMs) : RMs := addf x (broadcastInDim S40x3x16x16x48 ![] bcast_S_S40x3x16x16x48 (constant S_ .f32 0x3F800000#32))
def masked (c : IVec S16x16 1) (x : RMs) : RMs :=
  select (broadcastInDim S40x3x16x16x48 ![2, 3, 4] bcast_S16x16x1_S40x3x16x16x48_2_3_4 (broadcastInDim S16x16x1 ![0, 1] bcast_S16x16_S16x16x1_0_1 c)) x
    (broadcastInDim S40x3x16x16x48 ![] bcast_S_S40x3x16x16x48 (constant S_ .f32 0x00000000#32))
/-- The learning rates, and a sixteenth of them. -/
def rates (x : FVec Ideal S3x640x3072 .bf16) (w : FVec Ideal S3072x48 .f32) (b : FVec Ideal S48 .f32) : RC :=
  Host.divf (mulf (broadcastInDim S40x3x16x48 ![] bcast_S_S40x3x16x48 (constant S_ .f32 0x40000000#32))
    (Host.divf (broadcastInDim S40x3x16x48 ![] bcast_S_S40x3x16x48 (constant S_ .f32 0x3F800000#32))
      (addf (broadcastInDim S40x3x16x48 ![] bcast_S_S40x3x16x48 (constant S_ .f32 0x3F800000#32))
        (Host.exp (Host.negf (addf
          (transpose S40x3x16x48 [2, 1, 3, 0]
            (Host.dotGeneral (F := Ideal) dot_S3072x48_S3x40x16x3072_S48x3x40x16_0_3_1_012_n_n (some .fp32) w
              (shapeCast S3x40x16x3072 (extf .f32 x bitsLt_bf16_f32 : FVec Ideal S3x640x3072 .f32) shapeCasts_S3x640x3072_S3x40x16x3072) : FVec Ideal S48x3x40x16 .f32)
            transposes_S48x3x40x16_S40x3x16x48_2_1_3_0)
          (broadcastInDim S40x3x16x48 ![0, 1, 2, 3] bcast_S1x1x1x48_S40x3x16x48_0_1_2_3 (broadcastInDim S1x1x1x48 ![3] bcast_S48_S1x1x1x48_3 b))))))))
    (broadcastInDim S40x3x16x48 ![] bcast_S_S40x3x16x48 (constant S_ .f32 0x42800000#32))
def sixteenth (lr : RC) : RC := Host.divf lr (broadcastInDim S40x3x16x48 ![] bcast_S_S40x3x16x48 (constant S_ .f32 0x41800000#32))
def perBatchW (w : FVec Ideal S48x64x64 .f32) : RTW :=
  broadcastInDim S3x48x64x64 ![0, 1, 2, 3] bcast_S1x48x64x64_S3x48x64x64_0_1_2_3 (broadcastInDim S1x48x64x64 ![1, 2, 3] bcast_S48x64x64_S1x48x64x64_1_2_3 w)
def perBatchB (b : FVec Ideal S48x64 .f32) : RTB :=
  broadcastInDim S3x48x64 ![0, 1, 2] bcast_S1x48x64_S3x48x64_0_1_2 (broadcastInDim S1x48x64 ![1, 2] bcast_S48x64_S1x48x64_1_2 b)

/-! ## Read at an index -/

theorem chunk_tok (n : Fin 40) (j : Fin 16) : Spec.chunk (Spec.tok n j) = n := by
  apply Fin.ext; simp only [Spec.chunk, Spec.tok]; omega
theorem byChunk_at (x : FVec Ideal S3x640x48x64 .f32) (n : Fin 40) (b : Fin 3) (j : Fin 16) (h : Fin 48) (e : Fin 64) :
    byChunk x (ix5 n b j h e) = x (ix4 b (Spec.tok n j) h e) := by
  unfold byChunk; pointwise
  congr 2; apply Fin.ext; simp only [Spec.tok]; omega
theorem scaleT_at (s : RScale) (n : Fin 40) (b : Fin 3) (h : Fin 48) : scaleT s (ix3 n b h) = s (ix3 b n h) := by
  unfold scaleT; pointwise
theorem scaled_at (x : FVec Ideal S3x640x48x64 .f32) (s : RScale) (n : Fin 40) (b : Fin 3) (j : Fin 16) (h : Fin 48) (e : Fin 64) :
    scaled x s (ix5 n b j h e) = x (ix4 b (Spec.tok n j) h e) * s (ix3 b n h) := by
  unfold scaled; pointwise; rw [byChunk_at, scaleT_at]
theorem scores_at (q k : FVec Ideal S3x640x48x64 .f32) (qs ks : RScale) (n : Fin 40) (b : Fin 3) (i j : Fin 16) (h : Fin 48) :
    scores q k qs ks (ix5 n b i j h) = (∑ d, k (ix4 b (Spec.tok n j) h d) * q (ix4 b (Spec.tok n i) h d)) * (qs (ix3 b n h) * ks (ix3 b n h)) := by
  unfold scores; pointwise; simp only [byChunk_at, scaleT_at]
theorem count_at (i : Fin 16) : ((1 : EReal) + (FloatOps.sitofp FTy.f32 (BitVec.ofNat 32 i.val) : Ideal .f32)) = ((i.val + 1 : ℝ) : EReal) := by
  have h : (BitVec.ofNat 32 i.val).toInt = (i.val : ℤ) := by revert i; decide
  show (1 : EReal) + (((BitVec.ofNat 32 i.val).toInt : ℝ) : EReal) = _
  rw [h, ← EReal.coe_one, ← EReal.coe_add]
  push_cast
  rw [add_comm]
theorem perQuery_at (lr : RC) (n : Fin 40) (b : Fin 3) (i j : Fin 16) (h : Fin 48) :
    perQuery lr (ix5 n b i j h) = Ideal.div (lr (ix4 n b j h)) ((i.val + 1 : ℝ) : EReal) := by
  unfold perQuery; pointwise
  exact congrArg _ (count_at i)
theorem causal_at (i j : Fin 16) : causal ones (ix2 i j) = if j ≤ i then 1#1 else 0#1 := by
  unfold causal ones; pointwise
  revert i j; decide
theorem addOne_at (x : RMs) (n : Fin 40) (b : Fin 3) (i j : Fin 16) (h : Fin 48) : addOne x (ix5 n b i j h) = x (ix5 n b i j h) + 1 := by
  unfold addOne; pointwise
theorem masked_at (c : IVec S16x16 1) (x : RMs) (n : Fin 40) (b : Fin 3) (i j : Fin 16) (h : Fin 48) :
    masked c x (ix5 n b i j h) = if c (ix2 i j) = 1#1 then x (ix5 n b i j h) else 0 := by
  unfold masked; pointwise
  rfl
theorem rates_at (x : FVec Ideal S3x640x3072 .bf16) (w : FVec Ideal S3072x48 .f32) (b' : FVec Ideal S48 .f32) (n : Fin 40) (b : Fin 3) (j : Fin 16) (h : Fin 48) :
    rates x w b' (ix4 n b j h) = Spec.rate ((∑ d, x (ix3 b (Spec.tok n j) d) * w (ix2 d h)) + b' (ix1 h)) := by
  have ht : Spec.tok n j = ⟨n.val * 16 + j.val, by omega⟩ := by apply Fin.ext; simp only [Spec.tok]; omega
  unfold rates Spec.rate Ideal.logistic; pointwise
  rw [ht]
  simp only [mul_comm (w _)]
theorem sixteenth_at (lr : RC) (n : Fin 40) (b : Fin 3) (j : Fin 16) (h : Fin 48) : sixteenth lr (ix4 n b j h) = Ideal.div (lr (ix4 n b j h)) Spec.c16 := by
  unfold sixteenth; pointwise; rfl
theorem perBatchW_at (w : FVec Ideal S48x64x64 .f32) (b : Fin 3) (h : Fin 48) (d e : Fin 64) : perBatchW w (ix4 b h d e) = w (ix3 h d e) := by
  unfold perBatchW; pointwise
theorem perBatchB_at (w : FVec Ideal S48x64 .f32) (b : Fin 3) (h : Fin 48) (e : Fin 64) : perBatchB w (ix3 b h e) = w (ix2 h e) := by
  unfold perBatchB; pointwise

/-! ## The stretches before the loop -/

section
variable (V : Valuation τ sig (Elt Ideal))

theorem pre0_lr : after hostOps0 V (Proc.devRef .tc main_v16) = rates (V (Proc.devRef .tc main_arg6)) (V (Proc.devRef .tc main_arg7)) (V (Proc.devRef .tc main_arg8)) := by
  after_results; chain_rfl
theorem pre1_q : after hostOps1 V (Proc.devRef .tc main_v29) = scaled (V (Proc.devRef .tc main_v17_0)) (V (Proc.devRef .tc main_arg3)) := by
  after_results; chain_rfl
theorem pre1_k : after hostOps1 V (Proc.devRef .tc main_v32) = scaled (V (Proc.devRef .tc main_v17_1)) (V (Proc.devRef .tc main_arg4)) := by
  after_results; chain_rfl
theorem pre1_t : after hostOps1 V (Proc.devRef .tc main_v51)
    = subf (scaled (V (Proc.devRef .tc main_v17_2)) (V (Proc.devRef .tc main_arg5))) (scaled (V (Proc.devRef .tc main_v17_1)) (V (Proc.devRef .tc main_arg4))) := by
  after_results; chain_rfl
theorem pre1_a : after hostOps1 V (Proc.devRef .tc main_v41)
    = scores (V (Proc.devRef .tc main_v17_0)) (V (Proc.devRef .tc main_v17_1)) (V (Proc.devRef .tc main_arg3)) (V (Proc.devRef .tc main_arg4)) := by
  after_results; chain_rfl
theorem pre1_p : after hostOps1 V (Proc.devRef .tc main_v50) = perQuery (V (Proc.devRef .tc main_v16)) := by
  after_results; chain_rfl
theorem pre1_o : after hostOps1 V (Proc.devRef .tc main_v52) = ones := by
  after_results; chain_rfl
theorem pre2_c : after hostOps1_1 V (Proc.devRef .tc main_v53) = causal (V (Proc.devRef .tc main_v52)) := by
  after_results; chain_rfl
theorem pre3_p : after hostOps1_2 V (Proc.devRef .tc main_v57) = mulf (V (Proc.devRef .tc main_v50) : RMs) (addOne (V (Proc.devRef .tc main_v41))) := by
  after_results; chain_rfl
theorem pre34_m : after hostOps1_3 (after hostOps1_2 V) (Proc.devRef .tc main_v58)
    = masked (V (Proc.devRef .tc main_v53)) (after hostOps1_2 V (Proc.devRef .tc main_v57)) := by
  after_results; chain_rfl
theorem pre5_q : after hostOps1_4 V (Proc.devRef .tc main_v66_0) = V (Proc.devRef .tc main_v29) := by after_results; rfl
theorem pre5_k : after hostOps1_4 V (Proc.devRef .tc main_v66_1) = V (Proc.devRef .tc main_v32) := by after_results; rfl
theorem pre5_t : after hostOps1_4 V (Proc.devRef .tc main_v66_2) = V (Proc.devRef .tc main_v51) := by after_results; rfl
theorem pre5_m : after hostOps1_4 V (Proc.devRef .tc main_v66_3) = V (Proc.devRef .tc main_v58) := by after_results; rfl
theorem pre5_e : after hostOps1_4 V (Proc.devRef .tc main_v66_4) = sixteenth (V (Proc.devRef .tc main_v16)) := by after_results; chain_rfl
theorem pre5_g : after hostOps1_4 V (Proc.devRef .tc main_v66_5) = V (Proc.devRef .tc main_arg11) := by after_results; rfl
theorem pre5_bt : after hostOps1_4 V (Proc.devRef .tc main_v66_6) = V (Proc.devRef .tc main_arg12) := by after_results; rfl
theorem pre5_w : after hostOps1_4 V (Proc.devRef .tc main_v66_8) = perBatchW (V (Proc.devRef .tc main_arg9)) := by after_results; chain_rfl
theorem pre5_b : after hostOps1_4 V (Proc.devRef .tc main_v66_9) = perBatchB (V (Proc.devRef .tc main_arg10)) := by after_results; chain_rfl
end

/-! ## At the loop's entry -/

variable (c : Dev nD) (m : (ℓ : Loc nD τ sig) → Buf (Elt Ideal) ℓ) (ρ : Dev nD → PrngReg)

/-- The arguments, read off the launch memory. -/
def rArgs : Spec.Args where
  q b t h d := (m ((c : Thread nD τ).loc main_arg0) : S3x640x48x64.Idx → EReal) (ix4 b t h d)
  k b t h d := (m ((c : Thread nD τ).loc main_arg1) : S3x640x48x64.Idx → EReal) (ix4 b t h d)
  v b t h d := (m ((c : Thread nD τ).loc main_arg2) : S3x640x48x64.Idx → EReal) (ix4 b t h d)
  qs b n h := (m ((c : Thread nD τ).loc main_arg3) : S3x40x48.Idx → EReal) (ix3 b n h)
  ks b n h := (m ((c : Thread nD τ).loc main_arg4) : S3x40x48.Idx → EReal) (ix3 b n h)
  vs b n h := (m ((c : Thread nD τ).loc main_arg5) : S3x40x48.Idx → EReal) (ix3 b n h)
  x b t j := (m ((c : Thread nD τ).loc main_arg6) : S3x640x3072.Idx → EReal) (ix3 b t j)
  w j h := (m ((c : Thread nD τ).loc main_arg7) : S3072x48.Idx → EReal) (ix2 j h)
  b h := (m ((c : Thread nD τ).loc main_arg8) : S48.Idx → EReal) (ix1 h)
  w0 h d e := (m ((c : Thread nD τ).loc main_arg9) : S48x64x64.Idx → EReal) (ix3 h d e)
  b0 h e := (m ((c : Thread nD τ).loc main_arg10) : S48x64.Idx → EReal) (ix2 h e)
  gm h e := (m ((c : Thread nD τ).loc main_arg11) : S48x64.Idx → EReal) (ix2 h e)
  bt h e := (m ((c : Thread nD τ).loc main_arg12) : S48x64.Idx → EReal) (ix2 h e)

/-- A buffer none of the later stretches writes. -/
theorem w6_keep (r : Ref sig .tc) (h1 : r ∉ hostOps1_1_W) (h2 : r ∉ hostOps1_2_W) (h3 : r ∉ hostOps1_3_W) :
    W6 m ρ c (Proc.devRef .tc r) = W3 m ρ c (Proc.devRef .tc r) :=
  (W6_of m ρ c r h3).trans ((W5_of m ρ c r h2).trans (W4_of m ρ c r h1))

theorem w2_lr : W2 m ρ c (Proc.devRef .tc main_v16)
    = rates (m ((c : Thread nD τ).loc main_arg6)) (m ((c : Thread nD τ).loc main_arg7)) (m ((c : Thread nD τ).loc main_arg8)) :=
  (W2_of m ρ c main_v16 (by decide +kernel)).trans (pre0_lr _)
theorem w2_lr_at (n : Fin 40) (b : Fin 3) (j : Fin 16) (h : Fin 48) :
    (W2 m ρ c (Proc.devRef .tc main_v16) : RC) (ix4 n b j h) = (rArgs c m).lr b (Spec.tok n j) h :=
  (congrFun (w2_lr c m ρ) _).trans (rates_at _ _ _ n b j h)

theorem went_q : Went m ρ c (Proc.devRef .tc main_v66_0)
    = scaled (m ((c : Thread nD τ).loc main_arg0) : Codes) (m ((c : Thread nD τ).loc main_arg3)) :=
  (pre5_q _).trans ((w6_keep c m ρ main_v29 (by decide +kernel) (by decide +kernel) (by decide +kernel)).trans ((pre1_q _).trans
    (congrArg₂ scaled (w2_q c m ρ) (W2_args m ρ c main_arg3 (by decide)))))
theorem went_k : Went m ρ c (Proc.devRef .tc main_v66_1)
    = scaled (m ((c : Thread nD τ).loc main_arg1) : Codes) (m ((c : Thread nD τ).loc main_arg4)) :=
  (pre5_k _).trans ((w6_keep c m ρ main_v32 (by decide +kernel) (by decide +kernel) (by decide +kernel)).trans ((pre1_k _).trans
    (congrArg₂ scaled (w2_k c m ρ) (W2_args m ρ c main_arg4 (by decide)))))
theorem went_t : Went m ρ c (Proc.devRef .tc main_v66_2)
    = (subf (scaled (m ((c : Thread nD τ).loc main_arg2) : Codes) (m ((c : Thread nD τ).loc main_arg5)))
      (scaled (m ((c : Thread nD τ).loc main_arg1) : Codes) (m ((c : Thread nD τ).loc main_arg4))) : RS) :=
  (pre5_t _).trans ((w6_keep c m ρ main_v51 (by decide +kernel) (by decide +kernel) (by decide +kernel)).trans ((pre1_t _).trans
    (congrArg₂ (subf : RS → RS → RS) (congrArg₂ scaled (w2_v c m ρ) (W2_args m ρ c main_arg5 (by decide)))
      (congrArg₂ scaled (w2_k c m ρ) (W2_args m ρ c main_arg4 (by decide))))))
theorem w3_a : W3 m ρ c (Proc.devRef .tc main_v41)
    = scores (m ((c : Thread nD τ).loc main_arg0) : Codes) (m ((c : Thread nD τ).loc main_arg1) : Codes) (m ((c : Thread nD τ).loc main_arg3)) (m ((c : Thread nD τ).loc main_arg4)) :=
  (pre1_a _).trans (congr (congr (congrArg₂ scores (w2_q c m ρ) (w2_k c m ρ)) (W2_args m ρ c main_arg3 (by decide))) (W2_args m ρ c main_arg4 (by decide)))
theorem went_m : Went m ρ c (Proc.devRef .tc main_v66_3)
    = masked (causal ones) (mulf (perQuery (W2 m ρ c (Proc.devRef .tc main_v16)))
      (addOne (scores (m ((c : Thread nD τ).loc main_arg0) : Codes) (m ((c : Thread nD τ).loc main_arg1) : Codes) (m ((c : Thread nD τ).loc main_arg3)) (m ((c : Thread nD τ).loc main_arg4))))) :=
  (pre5_m _).trans ((pre34_m _).trans (congrArg₂ masked
    ((pre2_c _).trans (congrArg causal (pre1_o _)))
    ((pre3_p _).trans (congrArg₂ (mulf : RMs → RMs → RMs) ((W4_of m ρ c main_v50 (by decide +kernel)).trans (pre1_p _))
      (congrArg addOne ((W4_of m ρ c main_v41 (by decide +kernel)).trans (w3_a c m ρ)))))))
theorem went_e : Went m ρ c (Proc.devRef .tc main_v66_4) = sixteenth (W2 m ρ c (Proc.devRef .tc main_v16)) :=
  (pre5_e _).trans (congrArg sixteenth ((w6_keep c m ρ main_v16 (by decide +kernel) (by decide +kernel) (by decide +kernel)).trans
    (after_of_writes_sub hostOps1 _ hostOps1_writes (by decide +kernel))))
theorem went_g : Went m ρ c (Proc.devRef .tc main_v66_5) = m ((c : Thread nD τ).loc main_arg11) :=
  (pre5_g _).trans (W6_args m ρ c main_arg11 (by decide))
theorem went_bt : Went m ρ c (Proc.devRef .tc main_v66_6) = m ((c : Thread nD τ).loc main_arg12) :=
  (pre5_bt _).trans (W6_args m ρ c main_arg12 (by decide))
theorem went_w : Went m ρ c (Proc.devRef .tc main_v66_8) = perBatchW (m ((c : Thread nD τ).loc main_arg9)) :=
  (pre5_w _).trans (congrArg perBatchW (W6_args m ρ c main_arg9 (by decide)))
theorem went_b : Went m ρ c (Proc.devRef .tc main_v66_9) = perBatchB (m ((c : Thread nD τ).loc main_arg10)) :=
  (pre5_b _).trans (congrArg perBatchB (W6_args m ρ c main_arg10 (by decide)))

theorem coef_at (q k : FVec Ideal S3x640x48x64 .f32) (qs ks : RScale) (lr : RC) (A : Spec.Args) (n : Fin 40) (b : Fin 3) (i j : Fin 16) (h : Fin 48)
    (hq : ∀ T d, q (ix4 b T h d) = A.q b T h d) (hk : ∀ T d, k (ix4 b T h d) = A.k b T h d) (hqs : qs (ix3 b n h) = A.qs b n h)
    (hks : ks (ix3 b n h) = A.ks b n h) (hlr : lr (ix4 n b j h) = A.lr b (Spec.tok n j) h) :
    masked (causal ones) (mulf (perQuery lr) (addOne (scores q k qs ks))) (ix5 n b i j h) = Spec.coef (A.ch b h n) i j := by
  rw [masked_at, causal_at]
  have e : (mulf (perQuery lr) (addOne (scores q k qs ks)) : RMs) (ix5 n b i j h)
      = perQuery lr (ix5 n b i j h) * addOne (scores q k qs ks) (ix5 n b i j h) := rfl
  rw [e, perQuery_at, addOne_at, scores_at]
  simp only [hq, hk, hqs, hks, hlr]
  unfold Spec.coef Spec.Args.ch
  simp only [chunk_tok]
  by_cases hij : j ≤ i
  · rw [if_pos hij, if_pos rfl, if_pos hij]
  · rw [if_neg hij, if_neg (by decide), if_neg hij]

theorem scaled_args (x : FVec Ideal S3x640x48x64 .f32) (s : RScale) (f : Fin 3 → Fin 640 → Fin 48 → Fin 64 → EReal) (g : Fin 3 → Fin 40 → Fin 48 → EReal)
    (hx : ∀ b T h d, x (ix4 b T h d) = f b T h d) (hs : ∀ b n h, s (ix3 b n h) = g b n h) (n : Fin 40) (b : Fin 3) (j : Fin 16) (h : Fin 48) (e : Fin 64) :
    scaled x s (ix5 n b j h e) = f b (Spec.tok n j) h e * g b (Spec.chunk (Spec.tok n j)) h := by
  rw [scaled_at, chunk_tok, hx, hs]

/-- At the entry the loop holds the arguments' chunks and the initial model. -/
theorem entry_const : Const (Went m ρ c) (rArgs c m) where
  q n b j h e := (congrFun (went_q c m ρ) _).trans
    (scaled_args _ _ (rArgs c m).q (rArgs c m).qs (fun _ _ _ _ => rfl) (fun _ _ _ => rfl) n b j h e)
  k n b j h e := (congrFun (went_k c m ρ) _).trans
    (scaled_args _ _ (rArgs c m).k (rArgs c m).ks (fun _ _ _ _ => rfl) (fun _ _ _ => rfl) n b j h e)
  t n b j h e := (congrFun (went_t c m ρ) _).trans (congrArg₂ (fun x y : EReal => x - y)
    (scaled_args _ _ (rArgs c m).v (rArgs c m).vs (fun _ _ _ _ => rfl) (fun _ _ _ => rfl) n b j h e)
    (scaled_args _ _ (rArgs c m).k (rArgs c m).ks (fun _ _ _ _ => rfl) (fun _ _ _ => rfl) n b j h e))
  m n b i j h := (congrFun (went_m c m ρ) _).trans
    (coef_at _ _ _ _ _ (rArgs c m) n b i j h (fun _ _ => rfl) (fun _ _ => rfl) rfl rfl (w2_lr_at c m ρ n b j h))
  eta n b j h := (congrFun (went_e c m ρ) _).trans ((sixteenth_at _ n b j h).trans (congrArg (fun x => Ideal.div x Spec.c16) (w2_lr_at c m ρ n b j h)))
  g h := congrArg (fun x : RTG => gOf x h) (went_g c m ρ)
  bt h := congrArg (fun x : RTG => gOf x h) (went_bt c m ρ)

theorem entry_state : State (Went m ρ c) (rArgs c m) 0 where
  toConst := entry_const c m ρ
  w b h := funext fun d => funext fun e => (congrFun (went_w c m ρ) _).trans (perBatchW_at _ b h d e)
  b b h := funext fun e => (congrFun (went_b c m ρ) _).trans (perBatchB_at _ b h e)
  z n b j h e hn := absurd hn (Nat.not_lt_zero _)

end Cert.ReferenceIdeal.Val

end
-- ==== Proof.RefResults.lean ====
/- The reference's four results, as `Spec` of its arguments: the state after forty trips, and the final normalisation. -/
module

public import proofs.«01_k».proof.Proof.RefEntry

@[expose] public section

set_option maxRecDepth 100000

noncomputable section

namespace Cert.ReferenceIdeal.Val

open Idealize.ShloMosaic Idealize.ShloMosaic.TcCoe Idealize.SL Idealize.SL.Sem
open Idealize.ShloMosaic.StableHlo
open Cert.ReferenceIdeal.Gen

/-! ## The final normalisation over all chunks -/

abbrev RS1 := FVec Ideal S40x3x16x48x1 .f32

def fover (x : RS1) : RS := broadcastInDim S40x3x16x48x64 ![0, 1, 2, 3, 4] bcast_S40x3x16x48x1_S40x3x16x48x64_0_1_2_3_4 x
def fmean (x : RS) : RS1 :=
  Host.divf (broadcastInDim S40x3x16x48x1 ![0, 1, 2, 3] bcast_S40x3x16x48_S40x3x16x48x1_0_1_2_3
      (Host.reduceAdd x (constant S_ .f32 0x00000000#32) reducesTo_S40x3x16x48x64_S40x3x16x48_d4 h_S_ : RC))
    (broadcastInDim S40x3x16x48x1 ![] bcast_S_S40x3x16x48x1 (constant S_ .f32 0x42800000#32))
def fcen (x : RS) : RS := subf x (fover (fmean x))
def fstd (z : RS) : RS1 :=
  Host.sqrt (addf (fmean (mulf z z)) (broadcastInDim S40x3x16x48x1 ![] bcast_S_S40x3x16x48x1 (constant S_ .f32 0x358637BD#32)))
def fnrm (z : RS) : RS := Host.divf z (fover (fstd z))
def fper (g : RTG) : RS :=
  broadcastInDim S40x3x16x48x64 ![0, 1, 2, 3, 4] bcast_S1x1x1x48x64_S40x3x16x48x64_0_1_2_3_4
    (broadcastInDim S1x1x1x48x64 ![3, 4] bcast_S48x64_S1x1x1x48x64_3_4 g)
def fout (g b : RTG) (q z : RS) : RS := addf (addf q (mulf (fper g) (fnrm (fcen z)))) (fper b)
/-- The chunks as tokens again. -/
def tokens (x : RS) : FVec Ideal S3x640x48x64 .f32 :=
  shapeCast S3x640x48x64 (transpose S3x40x16x48x64 [1, 0, 2, 3, 4] x transposes_S40x3x16x48x64_S3x40x16x48x64_1_0_2_3_4) shapeCasts_S3x40x16x48x64_S3x640x48x64

abbrev frow (x : RS) (n : Fin 40) (b : Fin 3) (j : Fin 16) (h : Fin 48) : Fin 64 → EReal := fun e => x (ix5 n b j h e)

theorem fover_at (x : RS1) (n : Fin 40) (b : Fin 3) (j : Fin 16) (h : Fin 48) (e : Fin 64) : fover x (ix5 n b j h e) = x (ix5 n b j h 0) := by
  unfold fover; pointwise
theorem fmean_at (x : RS) (n : Fin 40) (b : Fin 3) (j : Fin 16) (h : Fin 48) (z : Fin 1) : fmean x (ix5 n b j h z) = Spec.mean (frow x n b j h) := by
  unfold fmean; pointwise; rfl
theorem fcen_at (x : RS) (n : Fin 40) (b : Fin 3) (j : Fin 16) (h : Fin 48) : frow (fcen x) n b j h = Spec.cen (frow x n b j h) := by
  funext e; unfold fcen frow; pointwise; rw [fover_at, fmean_at]; rfl
theorem fstd_at (x : RS) (n : Fin 40) (b : Fin 3) (j : Fin 16) (h : Fin 48) (z : Fin 1) : fstd x (ix5 n b j h z) = Spec.std (frow x n b j h) := by
  unfold fstd; pointwise; rw [fmean_at]; rfl
theorem fnrm_at (x : RS) (n : Fin 40) (b : Fin 3) (j : Fin 16) (h : Fin 48) : frow (fnrm x) n b j h = Spec.nrm (frow x n b j h) := by
  funext e; unfold fnrm frow; pointwise; rw [fover_at, fstd_at]; rfl
theorem fper_at (g : RTG) (n : Fin 40) (b : Fin 3) (j : Fin 16) (h : Fin 48) (e : Fin 64) : fper g (ix5 n b j h e) = g (ix2 h e) := by
  unfold fper; pointwise
theorem fout_at (g b' : RTG) (q z : RS) (n : Fin 40) (b : Fin 3) (j : Fin 16) (h : Fin 48) :
    frow (fout g b' q z) n b j h = Spec.out (gOf g h) (gOf b' h) (frow q n b j h) (frow z n b j h) := by
  have hn : ∀ e, fnrm (fcen z) (ix5 n b j h e) = Spec.nrm (Spec.cen (frow z n b j h)) e := fun e => by
    rw [← fcen_at, ← fnrm_at]
  funext e
  unfold fout frow
  generalize fnrm (fcen z) = x at hn ⊢
  pointwise
  rw [fper_at, fper_at, hn]
  rfl
theorem tokens_at (x : RS) (b : Fin 3) (T : Fin 640) (h : Fin 48) (e : Fin 64) :
    tokens x (ix4 b T h e) = x (ix5 (Spec.chunk T) b (Spec.place T) h e) := by
  unfold tokens; pointwise; rfl

/-! ## The stretch after the loop -/

section
variable (V : Valuation τ sig (Elt Ideal))

theorem post_z : after hostOps1_5 V (Proc.devRef .tc main_v94) = tokens (V (Proc.devRef .tc main_v66_10)) := by
  after_results; chain_rfl
theorem post_o : after hostOps1_5 V (Proc.devRef .tc main_v92)
    = tokens (fout (V (Proc.devRef .tc main_arg11)) (V (Proc.devRef .tc main_arg12)) (V (Proc.devRef .tc main_v29)) (V (Proc.devRef .tc main_v66_10))) := by
  after_results; chain_rfl
end

/-! ## The four results -/

variable (c : Dev nD) (m : (ℓ : Loc nD τ sig) → Buf (Elt Ideal) ℓ) (ρ : Dev nD → PrngReg)

theorem final : State (Wk m ρ 40 c) (rArgs c m) 40 := state_at m ρ c (entry_state c m ρ) 40 le_rfl

theorem res_w (b : Fin 3) (h : Fin 48) (d e : Fin 64) :
    WN m ρ c (Proc.devRef .tc main_v66_8) (ix4 b h d e) = ((rArgs c m).st b h 40).1 d e :=
  (congrFun ((W9_of m ρ c main_v66_8 (by decide +kernel)).trans (keepC _ main_v66_8 (by decide +kernel))) _).trans
    (congrFun (congrFun ((final c m ρ).w b h) d) e)
theorem res_b (b : Fin 3) (h : Fin 48) (e : Fin 64) :
    WN m ρ c (Proc.devRef .tc main_v66_9) (ix3 b h e) = ((rArgs c m).st b h 40).2 e :=
  (congrFun ((W9_of m ρ c main_v66_9 (by decide +kernel)).trans (keepC _ main_v66_9 (by decide +kernel))) _).trans
    (congrFun ((final c m ρ).b b h) e)

theorem stack_at (n : Fin 40) (b : Fin 3) (j : Fin 16) (h : Fin 48) :
    frow (W8 m ρ c (Proc.devRef .tc main_v66_10)) n b j h
      = Spec.zAt ((rArgs c m).gm h) ((rArgs c m).bt h) ((rArgs c m).ch b h) ((rArgs c m).w0 h) ((rArgs c m).b0 h) n j :=
  funext fun e => (congrFun (keepC _ main_v66_10 (by decide +kernel)) _).trans ((final c m ρ).z n b j h e n.isLt)
theorem res_z (b : Fin 3) (T : Fin 640) (h : Fin 48) (e : Fin 64) :
    WN m ρ c (Proc.devRef .tc main_v94) (ix4 b T h e) = (rArgs c m).z b h T e :=
  (congrFun (post_z _) _).trans ((tokens_at _ b T h e).trans (congrFun (stack_at c m ρ (Spec.chunk T) b (Spec.place T) h) e))

theorem w8_q : W8 m ρ c (Proc.devRef .tc main_v29) = scaled (m ((c : Thread nD τ).loc main_arg0) : Codes) (m ((c : Thread nD τ).loc main_arg3)) :=
  (keepC _ main_v29 (by decide +kernel)).trans ((wk_keep m ρ c main_v29 (by decide +kernel) 40).trans
    ((W7_of m ρ c main_v29 (by decide +kernel)).trans ((pre5_q (W6 m ρ c)).symm.trans (went_q c m ρ))))
theorem query_at (n : Fin 40) (b : Fin 3) (j : Fin 16) (h : Fin 48) :
    frow (W8 m ρ c (Proc.devRef .tc main_v29)) n b j h = ((rArgs c m).ch b h n).q j :=
  funext fun e => (congrFun (w8_q c m ρ) _).trans
    (scaled_args _ _ (rArgs c m).q (rArgs c m).qs (fun _ _ _ _ => rfl) (fun _ _ _ => rfl) n b j h e)
theorem res_o (b : Fin 3) (T : Fin 640) (h : Fin 48) (e : Fin 64) :
    WN m ρ c (Proc.devRef .tc main_v92) (ix4 b T h e) = (rArgs c m).o b h T e := by
  refine (congrFun (post_o _) _).trans ((tokens_at _ b T h e).trans ?_)
  refine (congrFun (fout_at _ _ _ _ (Spec.chunk T) b (Spec.place T) h) e).trans ?_
  have hg : gOf (W8 m ρ c (Proc.devRef .tc main_arg11)) h = (rArgs c m).gm h :=
    congrArg (fun x : RTG => gOf x h) (W8_args m ρ c main_arg11 (by decide))
  have hb : gOf (W8 m ρ c (Proc.devRef .tc main_arg12)) h = (rArgs c m).bt h :=
    congrArg (fun x : RTG => gOf x h) (W8_args m ρ c main_arg12 (by decide))
  have hq := query_at c m ρ (Spec.chunk T) b (Spec.place T) h
  have hz := stack_at c m ρ (Spec.chunk T) b (Spec.place T) h
  exact congrFun (congr (congr (congrArg₂ Spec.out hg hb) hq) hz) e

end Cert.ReferenceIdeal.Val

end
-- ==== Proof.Value.lean ====
/- The two programs' results are the same values: both are `Spec` of the arguments. -/
module

public import proofs.«01_k».proof.Defs
public import proofs.«01_k».proof.Proof.KernelHost
public import proofs.«01_k».proof.Proof.KernelRun
public import proofs.«01_k».proof.Proof.RefResults

@[expose] public section

set_option maxRecDepth 16384

noncomputable section

namespace Cert.Value

open Idealize.ShloMosaic Idealize.ShloMosaic.TcCoe Idealize.SL Idealize.SL.Sem
open Cert.KernelIdeal (S3x640x48x64 S3x40x48 S3x640x3072 S3072x48 S48 S48x64x64 S48x64)

/-- The arguments from the thirteen arrays. -/
def argsOf (q k v : S3x640x48x64.Idx → EReal) (qs ks vs : S3x40x48.Idx → EReal) (x : S3x640x3072.Idx → EReal) (w : S3072x48.Idx → EReal)
    (b : S48.Idx → EReal) (w0 : S48x64x64.Idx → EReal) (b0 gm bt : S48x64.Idx → EReal) : Spec.Args where
  q b t h d := q (ix4 b t h d)
  k b t h d := k (ix4 b t h d)
  v b t h d := v (ix4 b t h d)
  qs b n h := qs (ix3 b n h)
  ks b n h := ks (ix3 b n h)
  vs b n h := vs (ix3 b n h)
  x b t j := x (ix3 b t j)
  w j h := w (ix2 j h)
  b h := b (ix1 h)
  w0 h d e := w0 (ix3 h d e)
  b0 h e := b0 (ix2 h e)
  gm h e := gm (ix2 h e)
  bt h e := bt (ix2 h e)

variable (c : Dev Cert.KernelIdeal.nD)
  (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (g' : Dev Cert.ReferenceIdeal.nD → PrngReg)

abbrev mK (r : Ref Cert.KernelIdeal.sig .tc) := m ((c.tc : Thread Cert.KernelIdeal.nD Cert.KernelIdeal.τ).loc r)
abbrev mR (r : Ref Cert.ReferenceIdeal.sig .tc) := m' ((c.tc : Thread Cert.ReferenceIdeal.nD Cert.ReferenceIdeal.τ).loc r)

/-- The two memories agree on the arguments. -/
structure Agree : Prop where
  h0 : mR c m' Cert.ReferenceIdeal.main_arg0 = mK c m Cert.KernelIdeal.main_arg0
  h1 : mR c m' Cert.ReferenceIdeal.main_arg1 = mK c m Cert.KernelIdeal.main_arg1
  h2 : mR c m' Cert.ReferenceIdeal.main_arg2 = mK c m Cert.KernelIdeal.main_arg2
  h3 : mR c m' Cert.ReferenceIdeal.main_arg3 = mK c m Cert.KernelIdeal.main_arg3
  h4 : mR c m' Cert.ReferenceIdeal.main_arg4 = mK c m Cert.KernelIdeal.main_arg4
  h5 : mR c m' Cert.ReferenceIdeal.main_arg5 = mK c m Cert.KernelIdeal.main_arg5
  h6 : mR c m' Cert.ReferenceIdeal.main_arg6 = mK c m Cert.KernelIdeal.main_arg6
  h7 : mR c m' Cert.ReferenceIdeal.main_arg7 = mK c m Cert.KernelIdeal.main_arg7
  h8 : mR c m' Cert.ReferenceIdeal.main_arg8 = mK c m Cert.KernelIdeal.main_arg8
  h9 : mR c m' Cert.ReferenceIdeal.main_arg9 = mK c m Cert.KernelIdeal.main_arg9
  h10 : mR c m' Cert.ReferenceIdeal.main_arg10 = mK c m Cert.KernelIdeal.main_arg10
  h11 : mR c m' Cert.ReferenceIdeal.main_arg11 = mK c m Cert.KernelIdeal.main_arg11
  h12 : mR c m' Cert.ReferenceIdeal.main_arg12 = mK c m Cert.KernelIdeal.main_arg12

theorem kArgs_eq : Cert.KernelIdeal.Val.kArgs c m = argsOf (mK c m Cert.KernelIdeal.main_arg0) (mK c m Cert.KernelIdeal.main_arg1) (mK c m Cert.KernelIdeal.main_arg2) (mK c m Cert.KernelIdeal.main_arg3) (mK c m Cert.KernelIdeal.main_arg4) (mK c m Cert.KernelIdeal.main_arg5) (mK c m Cert.KernelIdeal.main_arg6) (mK c m Cert.KernelIdeal.main_arg7) (mK c m Cert.KernelIdeal.main_arg8) (mK c m Cert.KernelIdeal.main_arg9) (mK c m Cert.KernelIdeal.main_arg10) (mK c m Cert.KernelIdeal.main_arg11) (mK c m Cert.KernelIdeal.main_arg12) := rfl
theorem rArgs_eq : Cert.ReferenceIdeal.Val.rArgs c m' = argsOf (mR c m' Cert.ReferenceIdeal.main_arg0) (mR c m' Cert.ReferenceIdeal.main_arg1) (mR c m' Cert.ReferenceIdeal.main_arg2) (mR c m' Cert.ReferenceIdeal.main_arg3) (mR c m' Cert.ReferenceIdeal.main_arg4) (mR c m' Cert.ReferenceIdeal.main_arg5) (mR c m' Cert.ReferenceIdeal.main_arg6) (mR c m' Cert.ReferenceIdeal.main_arg7) (mR c m' Cert.ReferenceIdeal.main_arg8) (mR c m' Cert.ReferenceIdeal.main_arg9) (mR c m' Cert.ReferenceIdeal.main_arg10) (mR c m' Cert.ReferenceIdeal.main_arg11) (mR c m' Cert.ReferenceIdeal.main_arg12) := rfl

variable {c m m'} (H : Agree c m m')
include H

theorem args_eq : Cert.ReferenceIdeal.Val.rArgs c m' = Cert.KernelIdeal.Val.kArgs c m :=
  congr (congr (congr (congr (congr (congr (congr (congr (congr (congr (congr (congrArg₂ argsOf H.h0 H.h1) H.h2) H.h3) H.h4) H.h5) H.h6) H.h7) H.h8) H.h9) H.h10) H.h11) H.h12

theorem eq_o : Cert.ReferenceIdeal.Gen.WN m' g' c (Proc.devRef .tc Cert.ReferenceIdeal.main_v92)
    = Cert.KernelIdeal.Gen.W5 m g c (Proc.devRef .tc Cert.KernelIdeal.main_v23) := by
  refine funext fun (y : S3x640x48x64.Idx) => ?_
  idx_vars y
  exact (Cert.ReferenceIdeal.Val.res_o c m' g' y0 y1 y2 y3).trans ((congrArg (fun A : Spec.Args => A.o y0 y2 y1 y3) (args_eq H)).trans
    (Cert.KernelIdeal.Val.res_o c m g y0 y1 y2 y3).symm)
theorem eq_z : Cert.ReferenceIdeal.Gen.WN m' g' c (Proc.devRef .tc Cert.ReferenceIdeal.main_v94)
    = Cert.KernelIdeal.Gen.W5 m g c (Proc.devRef .tc Cert.KernelIdeal.main_v24) := by
  refine funext fun (y : S3x640x48x64.Idx) => ?_
  idx_vars y
  exact (Cert.ReferenceIdeal.Val.res_z c m' g' y0 y1 y2 y3).trans ((congrArg (fun A : Spec.Args => A.z y0 y2 y1 y3) (args_eq H)).trans
    (Cert.KernelIdeal.Val.res_z c m g y0 y1 y2 y3).symm)
theorem eq_w : Cert.ReferenceIdeal.Gen.WN m' g' c (Proc.devRef .tc Cert.ReferenceIdeal.main_v66_8)
    = Cert.KernelIdeal.Gen.W5 m g c (Proc.devRef .tc Cert.KernelIdeal.main_v22_2) := by
  refine funext fun (y : Cert.KernelIdeal.S3x48x64x64.Idx) => ?_
  idx_vars y
  exact (Cert.ReferenceIdeal.Val.res_w c m' g' y0 y1 y2 y3).trans ((congrArg (fun A : Spec.Args => (A.st y0 y1 40).1 y2 y3) (args_eq H)).trans
    (Cert.KernelIdeal.Val.res_w c m g y0 y1 y2 y3).symm)
theorem eq_b : Cert.ReferenceIdeal.Gen.WN m' g' c (Proc.devRef .tc Cert.ReferenceIdeal.main_v66_9)
    = Cert.KernelIdeal.Gen.W5 m g c (Proc.devRef .tc Cert.KernelIdeal.main_v25) := by
  refine funext fun (y : Cert.KernelIdeal.S3x48x64.Idx) => ?_
  idx_vars y
  exact (Cert.ReferenceIdeal.Val.res_b c m' g' y0 y1 y2).trans ((congrArg (fun A : Spec.Args => (A.st y0 y1 40).2 y2) (args_eq H)).trans
    (Cert.KernelIdeal.Val.res_b c m g y0 y1 y2).symm)

omit H
theorem algebraic : Cert.algebraic_KernelIdeal_ReferenceIdeal (hKernelIdeal := Cert.KernelIdeal.Gen.facts) (hReferenceIdeal := Cert.ReferenceIdeal.Gen.facts) := by
  intro m g m' g' _ hargs
  have H : ∀ c, Agree c m m' := fun c => by
    obtain ⟨h0, h1, h2, h3, h4, h5, h6, h7, h8, h9, h10, h11, h12⟩ := hargs c
    exact ⟨h0, h1, h2, h3, h4, h5, h6, h7, h8, h9, h10, h11, h12⟩
  refine ⟨fun c => Cert.KernelIdeal.Gen.W5 m g c (Proc.devRef .tc Cert.KernelIdeal.main_v23), fun c => Cert.KernelIdeal.Gen.W5 m g c (Proc.devRef .tc Cert.KernelIdeal.main_v24),
    fun c => Cert.KernelIdeal.Gen.W5 m g c (Proc.devRef .tc Cert.KernelIdeal.main_v22_2), fun c => Cert.KernelIdeal.Gen.W5 m g c (Proc.devRef .tc Cert.KernelIdeal.main_v25),
    (θ_run _ _ _).mono (fun r h c => ?_) (Cert.KernelIdeal.Val.run_main m g),
    (θ_run _ _ _).mono (fun r h c => ?_) (Cert.ReferenceIdeal.Gen.run_main m' g')⟩
  · have k : ∀ x : Ref Cert.KernelIdeal.sig .tc, Proc.devRef .tc x ∈ Pipeline.ucRefs Cert.KernelIdeal.τ Cert.KernelIdeal.sig →
        r.2.mem ((c.tc : Thread Cert.KernelIdeal.nD Cert.KernelIdeal.τ).loc x) = Cert.KernelIdeal.Gen.W5 m g c (Proc.devRef .tc x) := fun x hx => h c _ hx
    exact ⟨k _ (Cert.KernelIdeal.Gen.mem_uc Cert.KernelIdeal.main_v23 (by decide)), k _ (Cert.KernelIdeal.Gen.mem_uc Cert.KernelIdeal.main_v24 (by decide)),
      k _ (Cert.KernelIdeal.Gen.mem_uc Cert.KernelIdeal.main_v22_2 (by decide)), k _ (Cert.KernelIdeal.Gen.mem_uc Cert.KernelIdeal.main_v25 (by decide)),
      (k _ (Cert.KernelIdeal.Gen.mem_uc Cert.KernelIdeal.main_arg0 (by decide))).trans (Cert.KernelIdeal.Gen.W5_main_arg0 m g c),
      (k _ (Cert.KernelIdeal.Gen.mem_uc Cert.KernelIdeal.main_arg1 (by decide))).trans (Cert.KernelIdeal.Gen.W5_main_arg1 m g c),
      (k _ (Cert.KernelIdeal.Gen.mem_uc Cert.KernelIdeal.main_arg2 (by decide))).trans (Cert.KernelIdeal.Gen.W5_main_arg2 m g c),
      (k _ (Cert.KernelIdeal.Gen.mem_uc Cert.KernelIdeal.main_arg3 (by decide))).trans (Cert.KernelIdeal.Gen.W5_main_arg3 m g c),
      (k _ (Cert.KernelIdeal.Gen.mem_uc Cert.KernelIdeal.main_arg4 (by decide))).trans (Cert.KernelIdeal.Gen.W5_main_arg4 m g c),
      (k _ (Cert.KernelIdeal.Gen.mem_uc Cert.KernelIdeal.main_arg5 (by decide))).trans (Cert.KernelIdeal.Gen.W5_main_arg5 m g c),
      (k _ (Cert.KernelIdeal.Gen.mem_uc Cert.KernelIdeal.main_arg6 (by decide))).trans (Cert.KernelIdeal.Gen.W5_main_arg6 m g c),
      (k _ (Cert.KernelIdeal.Gen.mem_uc Cert.KernelIdeal.main_arg7 (by decide))).trans (Cert.KernelIdeal.Gen.W5_main_arg7 m g c),
      (k _ (Cert.KernelIdeal.Gen.mem_uc Cert.KernelIdeal.main_arg8 (by decide))).trans (Cert.KernelIdeal.Gen.W5_main_arg8 m g c),
      (k _ (Cert.KernelIdeal.Gen.mem_uc Cert.KernelIdeal.main_arg9 (by decide))).trans (Cert.KernelIdeal.Gen.W5_main_arg9 m g c),
      (k _ (Cert.KernelIdeal.Gen.mem_uc Cert.KernelIdeal.main_arg10 (by decide))).trans (Cert.KernelIdeal.Gen.W5_main_arg10 m g c),
      (k _ (Cert.KernelIdeal.Gen.mem_uc Cert.KernelIdeal.main_arg11 (by decide))).trans (Cert.KernelIdeal.Gen.W5_main_arg11 m g c),
      (k _ (Cert.KernelIdeal.Gen.mem_uc Cert.KernelIdeal.main_arg12 (by decide))).trans (Cert.KernelIdeal.Gen.W5_main_arg12 m g c)⟩
  · have k : ∀ x : Ref Cert.ReferenceIdeal.sig .tc, Proc.devRef .tc x ∈ Pipeline.ucRefs Cert.ReferenceIdeal.τ Cert.ReferenceIdeal.sig →
        r.2.mem ((c.tc : Thread Cert.ReferenceIdeal.nD Cert.ReferenceIdeal.τ).loc x) = Cert.ReferenceIdeal.Gen.WN m' g' c (Proc.devRef .tc x) := fun x hx => h c _ hx
    exact ⟨(k _ (Cert.ReferenceIdeal.Gen.mem_uc Cert.ReferenceIdeal.main_v92 (by decide))).trans (eq_o g g' (H c)),
      (k _ (Cert.ReferenceIdeal.Gen.mem_uc Cert.ReferenceIdeal.main_v94 (by decide))).trans (eq_z g g' (H c)),
      (k _ (Cert.ReferenceIdeal.Gen.mem_uc Cert.ReferenceIdeal.main_v66_8 (by decide))).trans (eq_w g g' (H c)),
      (k _ (Cert.ReferenceIdeal.Gen.mem_uc Cert.ReferenceIdeal.main_v66_9 (by decide))).trans (eq_b g g' (H c)),
      (k _ (Cert.ReferenceIdeal.Gen.mem_uc Cert.ReferenceIdeal.main_arg0 (by decide))).trans (Cert.ReferenceIdeal.Gen.WN_main_arg0 m' g' c),
      (k _ (Cert.ReferenceIdeal.Gen.mem_uc Cert.ReferenceIdeal.main_arg1 (by decide))).trans (Cert.ReferenceIdeal.Gen.WN_main_arg1 m' g' c),
      (k _ (Cert.ReferenceIdeal.Gen.mem_uc Cert.ReferenceIdeal.main_arg2 (by decide))).trans (Cert.ReferenceIdeal.Gen.WN_main_arg2 m' g' c),
      (k _ (Cert.ReferenceIdeal.Gen.mem_uc Cert.ReferenceIdeal.main_arg3 (by decide))).trans (Cert.ReferenceIdeal.Gen.WN_main_arg3 m' g' c),
      (k _ (Cert.ReferenceIdeal.Gen.mem_uc Cert.ReferenceIdeal.main_arg4 (by decide))).trans (Cert.ReferenceIdeal.Gen.WN_main_arg4 m' g' c),
      (k _ (Cert.ReferenceIdeal.Gen.mem_uc Cert.ReferenceIdeal.main_arg5 (by decide))).trans (Cert.ReferenceIdeal.Gen.WN_main_arg5 m' g' c),
      (k _ (Cert.ReferenceIdeal.Gen.mem_uc Cert.ReferenceIdeal.main_arg6 (by decide))).trans (Cert.ReferenceIdeal.Gen.WN_main_arg6 m' g' c),
      (k _ (Cert.ReferenceIdeal.Gen.mem_uc Cert.ReferenceIdeal.main_arg7 (by decide))).trans (Cert.ReferenceIdeal.Gen.WN_main_arg7 m' g' c),
      (k _ (Cert.ReferenceIdeal.Gen.mem_uc Cert.ReferenceIdeal.main_arg8 (by decide))).trans (Cert.ReferenceIdeal.Gen.WN_main_arg8 m' g' c),
      (k _ (Cert.ReferenceIdeal.Gen.mem_uc Cert.ReferenceIdeal.main_arg9 (by decide))).trans (Cert.ReferenceIdeal.Gen.WN_main_arg9 m' g' c),
      (k _ (Cert.ReferenceIdeal.Gen.mem_uc Cert.ReferenceIdeal.main_arg10 (by decide))).trans (Cert.ReferenceIdeal.Gen.WN_main_arg10 m' g' c),
      (k _ (Cert.ReferenceIdeal.Gen.mem_uc Cert.ReferenceIdeal.main_arg11 (by decide))).trans (Cert.ReferenceIdeal.Gen.WN_main_arg11 m' g' c),
      (k _ (Cert.ReferenceIdeal.Gen.mem_uc Cert.ReferenceIdeal.main_arg12 (by decide))).trans (Cert.ReferenceIdeal.Gen.WN_main_arg12 m' g' c)⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Cert.Value.algebraic⟩

end Cert.Proof

end
